-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S1024x1024 : Shape := ⟨2, ![1024, 1024]⟩
abbrev S512x1024 : Shape := ⟨2, ![512, 1024]⟩
abbrev S256x1024 : Shape := ⟨2, ![256, 1024]⟩
abbrev S5 : Shape := ⟨1, ![5]⟩
abbrev S6 : Shape := ⟨1, ![6]⟩
abbrev S4 : Shape := ⟨1, ![4]⟩
abbrev S1 : Shape := ⟨1, ![1]⟩
abbrev S_ : Shape := ⟨0, ![]⟩
abbrev S128x1024 : Shape := ⟨2, ![128, 1024]⟩
abbrev S1x128x1024 : Shape := ⟨3, ![1, 128, 1024]⟩
abbrev S1x256x1024 : Shape := ⟨3, ![1, 256, 1024]⟩
abbrev S128 : Shape := ⟨1, ![128]⟩
abbrev S128x1 : Shape := ⟨2, ![128, 1]⟩
abbrev S1x1024 : Shape := ⟨2, ![1, 1024]⟩

abbrev nBuf : Space → Nat
  | .hbm => 3
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1024, .f32⟩
  | .local _ .vmem, ⟨0, _⟩ => ⟨S1024, .f32⟩
  | .local _ .vmem, ⟨1, _⟩ => ⟨S512x1024, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32 : BitVec 32 := 0#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_11 v8
  let c1024_i32_12 : BitVec 32 := 1024#32
  let v23 : BitVec 32 := Scalar.muli v22 c1024_i32_12
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v26 : BitVec 32 := Scalar.muli v13 c256_i32
  let v27 : BitVec 32 := Scalar.addi v23 v26
  let c0_i32_20 : BitVec 32 := 0#32
  ![0, v27.toNat, 0]
def k0_off2 (d0 : Dev nD) : Fin 3 → Nat :=
  let c0_i32_21 : BitVec 32 := 0#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_11 v8
  let c1024_i32_12 : BitVec 32 := 1024#32
  let v23 : BitVec 32 := Scalar.muli v22 c1024_i32_12
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_13 : BitVec 32 := 256#32
  let v28 : BitVec 32 := Scalar.muli v13 c256_i32_13
  let v29 : BitVec 32 := Scalar.addi v23 v28
  let c128_i32 : BitVec 32 := 128#32
  let v30 : BitVec 32 := Scalar.addi v29 c128_i32
  let c0_i32_25 : BitVec 32 := 0#32
  ![0, v30.toNat, 0]
def k0_off3 (d0 : Dev nD) : Fin 3 → Nat :=
  let c0_i32_26 : BitVec 32 := 0#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_11 v8
  let c1024_i32_12 : BitVec 32 := 1024#32
  let v23 : BitVec 32 := Scalar.muli v22 c1024_i32_12
  let c3_i32 : BitVec 32 := 3#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v14 : BitVec 32 := Scalar.subi c3_i32 v13
  let c256_i32_14 : BitVec 32 := 256#32
  let v31 : BitVec 32 := Scalar.muli v14 c256_i32_14
  let v32 : BitVec 32 := Scalar.addi v23 v31
  let c0_i32_30 : BitVec 32 := 0#32
  ![0, v32.toNat, 0]
def k0_off4 (d0 : Dev nD) : Fin 3 → Nat :=
  let c0_i32_31 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v21 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_15 : BitVec 32 := 256#32
  let v33 : BitVec 32 := Scalar.muli v13 c256_i32_15
  let v34 : BitVec 32 := Scalar.addi v21 v33
  let c0_i32_35 : BitVec 32 := 0#32
  ![0, v34.toNat, 0]
def k0_off5 (d0 : Dev nD) : Fin 3 → Nat :=
  let c0_i32_36 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v21 : BitVec 32 := Scalar.muli v8 c1024_i32
  let c3_i32 : BitVec 32 := 3#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v14 : BitVec 32 := Scalar.subi c3_i32 v13
  let c256_i32_16 : BitVec 32 := 256#32
  let v35 : BitVec 32 := Scalar.muli v14 c256_i32_16
  let v36 : BitVec 32 := Scalar.addi v21 v35
  let c0_i32_40 : BitVec 32 := 0#32
  ![0, v36.toNat, 0]
def k0_dev1 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v63 : BitVec 32 := Scalar.muli v2 c4_i32_42
  let v64 : BitVec 32 := Scalar.addi c0_i32_43 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v65 : BitVec 32 := Scalar.muli v5 c2_i32_44
  let v66 : BitVec 32 := Scalar.addi v64 v65
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_45 : BitVec 32 := 1#32
  let v67 : BitVec 32 := Scalar.muli v9 c1_i32_45
  let v68 : BitVec 32 := Scalar.addi v66 v67
  v68.toNat
def k0_dev2 (d0 : Dev nD) : Nat :=
  let c0_i32_48 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_47 : BitVec 32 := 4#32
  let v69 : BitVec 32 := Scalar.muli v10 c4_i32_47
  let v70 : BitVec 32 := Scalar.addi c0_i32_48 v69
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v71 : BitVec 32 := Scalar.muli v5 c2_i32_49
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v73 : BitVec 32 := Scalar.muli v8 c1_i32_50
  let v74 : BitVec 32 := Scalar.addi v72 v73
  v74.toNat
def k0_dev3 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_52 : BitVec 32 := 4#32
  let v75 : BitVec 32 := Scalar.muli v2 c4_i32_52
  let v76 : BitVec 32 := Scalar.addi c0_i32_53 v75
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_54 : BitVec 32 := 2#32
  let v77 : BitVec 32 := Scalar.muli v11 c2_i32_54
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v79 : BitVec 32 := Scalar.muli v8 c1_i32_55
  let v80 : BitVec 32 := Scalar.addi v78 v79
  v80.toNat
def k0_dev4 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v91 : BitVec 32 := Scalar.muli v2 c4_i32_68
  let v92 : BitVec 32 := Scalar.addi c0_i32_69 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v93 : BitVec 32 := Scalar.muli v5 c2_i32_70
  let v94 : BitVec 32 := Scalar.addi v92 v93
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_71 : BitVec 32 := 1#32
  let v95 : BitVec 32 := Scalar.muli v9 c1_i32_71
  let v96 : BitVec 32 := Scalar.addi v94 v95
  v96.toNat
def k0_dev5 (d0 : Dev nD) : Nat :=
  let c0_i32_87 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_86 : BitVec 32 := 4#32
  let v113 : BitVec 32 := Scalar.muli v2 c4_i32_86
  let v114 : BitVec 32 := Scalar.addi c0_i32_87 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v115 : BitVec 32 := Scalar.muli v5 c2_i32_88
  let v116 : BitVec 32 := Scalar.addi v114 v115
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_89 : BitVec 32 := 1#32
  let v117 : BitVec 32 := Scalar.muli v9 c1_i32_89
  let v118 : BitVec 32 := Scalar.addi v116 v117
  v118.toNat
def k0_dev6 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v135 : BitVec 32 := Scalar.muli v2 c4_i32_104
  let v136 : BitVec 32 := Scalar.addi c0_i32_105 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v137 : BitVec 32 := Scalar.muli v5 c2_i32_106
  let v138 : BitVec 32 := Scalar.addi v136 v137
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_107 : BitVec 32 := 1#32
  let v139 : BitVec 32 := Scalar.muli v9 c1_i32_107
  let v140 : BitVec 32 := Scalar.addi v138 v139
  v140.toNat
def k0_dev7 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v152 : BitVec 32 := Scalar.muli v2 c4_i32_117
  let v153 : BitVec 32 := Scalar.addi c0_i32_118 v152
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v154 : BitVec 32 := Scalar.muli v5 c2_i32_119
  let v155 : BitVec 32 := Scalar.addi v153 v154
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_120 : BitVec 32 := 1#32
  let v156 : BitVec 32 := Scalar.muli v9 c1_i32_120
  let v157 : BitVec 32 := Scalar.addi v155 v156
  v157.toNat
def k0_dev8 (d0 : Dev nD) : Nat :=
  let c0_i32_152 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_151 : BitVec 32 := 4#32
  let v203 : BitVec 32 := Scalar.muli v10 c4_i32_151
  let v204 : BitVec 32 := Scalar.addi c0_i32_152 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v205 : BitVec 32 := Scalar.muli v5 c2_i32_153
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v207 : BitVec 32 := Scalar.muli v8 c1_i32_154
  let v208 : BitVec 32 := Scalar.addi v206 v207
  v208.toNat
def k0_dev9 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v215 : BitVec 32 := Scalar.muli v2 c4_i32_161
  let v216 : BitVec 32 := Scalar.addi c0_i32_162 v215
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_163 : BitVec 32 := 2#32
  let v217 : BitVec 32 := Scalar.muli v11 c2_i32_163
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v219 : BitVec 32 := Scalar.muli v8 c1_i32_164
  let v220 : BitVec 32 := Scalar.addi v218 v219
  v220.toNat
def k0_off6 (d0 : Dev nD) (c0_i32_170 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_169 : BitVec 32 := 256#32
  let v227 : BitVec 32 := Scalar.muli v13 c256_i32_169
  let v228 : BitVec 32 := Scalar.addi v227 c0_i32_170
  let c0_i32_172 : BitVec 32 := 0#32
  ![v228.toNat, 0]
def k0_dev10 (d0 : Dev nD) : Nat :=
  let c0_i32_199 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_198 : BitVec 32 := 4#32
  let v267 : BitVec 32 := Scalar.muli v10 c4_i32_198
  let v268 : BitVec 32 := Scalar.addi c0_i32_199 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_200 : BitVec 32 := 2#32
  let v269 : BitVec 32 := Scalar.muli v5 c2_i32_200
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v271 : BitVec 32 := Scalar.muli v8 c1_i32_201
  let v272 : BitVec 32 := Scalar.addi v270 v271
  v272.toNat
def k0_dev11 (d0 : Dev nD) : Nat :=
  let c0_i32_209 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_208 : BitVec 32 := 4#32
  let v279 : BitVec 32 := Scalar.muli v2 c4_i32_208
  let v280 : BitVec 32 := Scalar.addi c0_i32_209 v279
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_210 : BitVec 32 := 2#32
  let v281 : BitVec 32 := Scalar.muli v11 c2_i32_210
  let v282 : BitVec 32 := Scalar.addi v280 v281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v283 : BitVec 32 := Scalar.muli v8 c1_i32_211
  let v284 : BitVec 32 := Scalar.addi v282 v283
  v284.toNat
def k0_off7 (d0 : Dev nD) (c0_i32_247 : BitVec 32) : Fin 2 → Nat :=
  let c3_i32 : BitVec 32 := 3#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v14 : BitVec 32 := Scalar.subi c3_i32 v13
  let c256_i32_246 : BitVec 32 := 256#32
  let v332 : BitVec 32 := Scalar.muli v14 c256_i32_246
  let v333 : BitVec 32 := Scalar.addi v332 c0_i32_247
  let c0_i32_249 : BitVec 32 := 0#32
  ![v333.toNat, 0]
def k0_off8 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v16 : BitVec 32 := Scalar.muli c2_i32_8 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.addi v16 v5
  let c256_i32_301 : BitVec 32 := 256#32
  let v399 : BitVec 32 := Scalar.muli v17 c256_i32_301
  let c0_i32_303 : BitVec 32 := 0#32
  ![v399.toNat, 0]
def k0_off9 (d0 : Dev nD) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v20 : BitVec 32 := Scalar.addi v18 v19
  let c256_i32_328 : BitVec 32 := 256#32
  let v428 : BitVec 32 := Scalar.muli v20 c256_i32_328
  let c0_i32_329 : BitVec 32 := 0#32
  ![v428.toNat, 0]
abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Rows.lean ====
/-
# Whole rows of an array, and what a transfer or a store leaves on them

Every transfer, load and store of the kernel touches a range of whole rows of an array of 1024 columns. This module
names such a range (`rows`), says how ranges are cut and joined, that a unit-stride rectangle of whole rows is one, and
that writing through a view what some contents hold under it leaves those contents there (`write_agrees`).
-/
module

public import Idealize.ShloMosaic.Signature.Memref
public import Idealize.ShloMosaic.Lib.ViewIndex

@[expose] public section

namespace Cert.RowNorm

open Idealize.ShloMosaic

/-- The shape of an array of `R` rows of 1024 columns. -/
abbrev Mat (R : ℕ) : Shape := ⟨2, ![R, 1024]⟩

/-- The index of row `r` (taken modulo the number of rows) and column `j`. -/
abbrev at2 (R : ℕ) [NeZero R] (r : ℕ) (j : Fin 1024) : (Mat R).Idx := Shape.pair (Fin.ofNat R r) j

/-- The `n` rows from row `a` of an array of `R` rows. -/
def rows (R a n : ℕ) : Finset (Mat R).Idx := Finset.univ.filter fun i => a ≤ (i 0).val ∧ (i 0).val < a + n

theorem mem_rows {R a n : ℕ} {i : (Mat R).Idx} : i ∈ rows R a n ↔ a ≤ (i 0).val ∧ (i 0).val < a + n := by
  unfold rows; rw [Finset.mem_filter]; exact and_iff_right (Finset.mem_univ i)

/-- Ranges of rows one after the other share no element. -/
theorem rows_disjoint {R a n b k : ℕ} (h : a + n ≤ b) : Disjoint (rows R a n) (rows R b k) :=
  Finset.disjoint_left.mpr fun i hi hj => by rw [mem_rows] at hi hj; omega

/-- Adjacent ranges join. -/
theorem rows_union {R a n b k : ℕ} (h : a + n = b) : rows R a n ∪ rows R b k = rows R a (n + k) := by
  ext i; rw [Finset.mem_union, mem_rows, mem_rows, mem_rows]; omega

/-- All the rows are the whole array. -/
theorem rows_univ (R : ℕ) : rows R 0 R = Finset.univ := by
  ext i; rw [mem_rows]
  exact ⟨fun _ => Finset.mem_univ _, fun _ => ⟨Nat.zero_le _, by have : (i 0).val < R := (i 0).isLt; omega⟩⟩

/-- A range inside another. -/
theorem rows_subset {R a n b k : ℕ} (h1 : b ≤ a) (h2 : a + n ≤ b + k) : rows R a n ⊆ rows R b k := fun i hi => by
  rw [mem_rows] at hi ⊢; omega

/-- The elements of a rectangle of whole rows. -/
theorem rect_set {R n : ℕ} {off : Fin 2 → ℕ} (inb : ∀ a, off a + (Mat n).size a ≤ (Mat R).size a) {o : ℕ} (h : off = ![o, 0]) :
    (Rect.unit (s := Mat R) off (Mat n).size inb).set = rows R o n := by
  subst h
  ext i
  rw [Rect.mem_set_unit, mem_rows]
  constructor
  · intro hi; exact hi 0
  · intro hi a
    match a with
    | ⟨0, _⟩ => exact hi
    | ⟨1, _⟩ => exact ⟨Nat.zero_le _, by have := (i 1).isLt; exact Nat.lt_of_lt_of_le this (Nat.le_add_left _ _)⟩

/-- The row and column of an index of such a rectangle, in the array. -/
theorem rect_emb {R n : ℕ} [NeZero R] {off : Fin 2 → ℕ} (inb : ∀ a, off a + (Mat n).size a ≤ (Mat R).size a) {o : ℕ} (h : off = ![o, 0])
    (x : (Mat n).Idx) : (Rect.unit (s := Mat R) off (Mat n).size inb).emb x = at2 R (o + (x 0).val) (x 1) := by
  subst h
  funext a
  apply Fin.ext
  match a with
  | ⟨0, _⟩ =>
    have h0 : o + n ≤ R := inb 0
    have hx : (x 0).val < n := (x 0).isLt
    show o + 1 * (x 0).val = (o + (x 0).val) % R
    rw [Nat.mod_eq_of_lt (by omega)]; omega
  | ⟨1, _⟩ =>
    show 0 + 1 * (x 1).val = (x 1).val
    omega

section Views

variable {sig : RefSig} {κ : Kind} {sp : Space} {s : Shape} {e : EltTy} {Val : EltTy → Type}

/-- Writing through a view what the contents `G` hold under it leaves `G` on the view's elements. -/
theorem write_agrees (v : View sig κ sp s e) (f G : v.ty.Contents Val) (w : s.Idx → Val e) (h : w = v.read Val G) :
    ∀ i ∈ v.set, v.write Val f w Finset.univ i = G i := by
  intro i hi
  obtain ⟨x, -, rfl⟩ := Finset.mem_map.mp hi
  refine View.eq_of_read_eq ?_
  rw [View.read_write_of_mem (v := v) f w (Finset.mem_univ x), h]

end Views

end Cert.RowNorm
-- ==== Proof.Contents.lean ====
/-
# What every buffer holds

The mesh has eight devices, `c = 4x + 2y + z`. The pair `zp c` (the other `z`) holds the other summand of the same rows;
`xn c` and `yn c` (the other `x`, the other `y`) need the same half of the result's rows as `c`. Of the four quarters of
256 rows of that half, device `c` computes its own one, number `2x + y`, and the diagonal one, number `3 - (2x + y)`, and
is sent the other two by `xn c` and `yn c`.

This module states the contents of each buffer of a device, once filled, as one function of the launch's memory: the
rows fetched of the two halves, the rows sent across `z` and received, the finished quarters, the quarters received, and
the result.
-/
module

public import proofs.«01_k».proof.Proof.Rows
public import proofs.«01_k».proof.Proof.Gen.KernelIdeal
public import proofs.«01_k».proof.Proof.Gen.KernelIdeal.Skeleton

@[expose] public section

set_option maxRecDepth 16384

noncomputable section

namespace Cert.RowNorm

open Cert.KernelIdeal Cert.KernelIdeal.Gen
open Idealize.ShloMosaic
open Idealize.ShloMosaic.TcCoe

variable {F : FTy → Type} [FloatOps F]

/-! ## The mesh -/

set_option backward.proofsInPublic true in
/-- The device with the other `z`. -/
def zp (c : Dev nD) : Dev nD := ⟨(4 * (c.val / 4) + 2 * (c.val / 2 % 2) + 1) - c.val % 2, by have := c.isLt; change c.val < 8 at this; change _ < 8; omega⟩
set_option backward.proofsInPublic true in
/-- The device with the other `x`. -/
def xn (c : Dev nD) : Dev nD := ⟨(2 * (c.val / 2 % 2) + c.val % 2 + 4) - 4 * (c.val / 4), by have := c.isLt; change c.val < 8 at this; change _ < 8; omega⟩
set_option backward.proofsInPublic true in
/-- The device with the other `y`. -/
def yn (c : Dev nD) : Dev nD := ⟨(4 * (c.val / 4) + c.val % 2 + 2) - 2 * (c.val / 2 % 2), by have := c.isLt; change c.val < 8 at this; change _ < 8; omega⟩

theorem zp_zp (c : Dev nD) : zp (zp c) = c := by revert c; decide
theorem xn_xn (c : Dev nD) : xn (xn c) = c := by revert c; decide
theorem yn_yn (c : Dev nD) : yn (yn c) = c := by revert c; decide

/-- The devices the kernel's address computations name. -/
theorem dev1_eq (c : Dev nD) : (⟨k0_dev1 c, k0_dev1_lt c⟩ : Dev nD) = zp c := Fin.ext (k0_dev1_eq c)
theorem dev2_eq (c : Dev nD) : (⟨k0_dev2 c, k0_dev2_lt c⟩ : Dev nD) = xn c := Fin.ext (k0_dev2_eq c)
theorem dev3_eq (c : Dev nD) : (⟨k0_dev3 c, k0_dev3_lt c⟩ : Dev nD) = yn c := Fin.ext (k0_dev3_eq c)
theorem dev4_eq (c : Dev nD) : (⟨k0_dev4 c, k0_dev4_lt c⟩ : Dev nD) = zp c := Fin.ext (k0_dev4_eq c)
theorem dev5_eq (c : Dev nD) : (⟨k0_dev5 c, k0_dev5_lt c⟩ : Dev nD) = zp c := Fin.ext (k0_dev5_eq c)
theorem dev6_eq (c : Dev nD) : (⟨k0_dev6 c, k0_dev6_lt c⟩ : Dev nD) = zp c := Fin.ext (k0_dev6_eq c)
theorem dev7_eq (c : Dev nD) : (⟨k0_dev7 c, k0_dev7_lt c⟩ : Dev nD) = zp c := Fin.ext (k0_dev7_eq c)
theorem dev8_eq (c : Dev nD) : (⟨k0_dev8 c, k0_dev8_lt c⟩ : Dev nD) = xn c := Fin.ext (k0_dev8_eq c)
theorem dev9_eq (c : Dev nD) : (⟨k0_dev9 c, k0_dev9_lt c⟩ : Dev nD) = yn c := Fin.ext (k0_dev9_eq c)
theorem dev10_eq (c : Dev nD) : (⟨k0_dev10 c, k0_dev10_lt c⟩ : Dev nD) = xn c := Fin.ext (k0_dev10_eq c)
theorem dev11_eq (c : Dev nD) : (⟨k0_dev11 c, k0_dev11_lt c⟩ : Dev nD) = yn c := Fin.ext (k0_dev11_eq c)

/-- The number of the quarter of rows device `c` finishes and sends on, and of the ones of `xn c` and `yn c`. -/
def own (c : Dev nD) : ℕ := 2 * (c.val / 4) + c.val / 2 % 2
/-- The number of the quarter of rows device `c` finishes for itself. -/
def diag (c : Dev nD) : ℕ := 3 - own c

theorem own_lt (c : Dev nD) : own c < 4 := by revert c; decide

/-! ## Blocks of 128 rows -/

section Blocks
variable {α β : Type}

/-- The `n` rows from row `a`. -/
def slab (n R : ℕ) [NeZero R] (a : ℕ) (f : (Mat R).Idx → α) : (Mat n).Idx → α := fun x => f (at2 R (a + (x 0).val) (x 1))

/-- The block of 128 rows from row `a`. -/
abbrev blk (R : ℕ) [NeZero R] (a : ℕ) (f : (Mat R).Idx → α) : (Mat 128).Idx → α := slab 128 R a f

/-- The array made of the blocks `g k` of 128 rows. -/
def ofBlocks (R : ℕ) (g : ℕ → (Mat 128).Idx → β) : (Mat R).Idx → β := fun i => g ((i 0).val / 128) (at2 128 (i 0).val (i 1))

/-- A block of such an array is the block it is made of. -/
theorem blk_ofBlocks (R : ℕ) [NeZero R] (g : ℕ → (Mat 128).Idx → β) {k : ℕ} (hk : 128 * k + 128 ≤ R) (x : (Mat 128).Idx) :
    ofBlocks R g (at2 R (128 * k + (x 0).val) (x 1)) = g k x := by
  have hx : (x 0).val < 128 := (x 0).isLt
  have h0 : ((at2 R (128 * k + (x 0).val) (x 1)) 0).val = 128 * k + (x 0).val := Nat.mod_eq_of_lt (by omega)
  show g (((at2 R (128 * k + (x 0).val) (x 1)) 0).val / 128) (at2 128 ((at2 R (128 * k + (x 0).val) (x 1)) 0).val (x 1)) = g k x
  rw [h0]
  have h1 : (128 * k + (x 0).val) / 128 = k := by omega
  rw [h1]
  congr 1
  rw [← Shape.pair_eta x]
  show Shape.pair _ _ = Shape.pair _ _
  congr 1
  apply Fin.ext
  show (128 * k + (x 0).val) % 128 = (x 0).val
  omega

end Blocks

/-! ## The contents -/

section Contents
variable (m : (ℓ : Loc nD τ sig) → Buf (Elt F) ℓ)

/-- The partial sums and the gains at launch. -/
def part (c : Dev nD) : S1x2048x1024.Idx → F .f32 := m ((c : Thread nD τ).loc main_arg0)
def gain (c : Dev nD) : FVec F S1024 .f32 := k0_pay1 (m ((c : Thread nD τ).loc main_arg1))

/-- Row `r` of the 512 rows fetched, among the 1024 of a half: the own quarter, then the diagonal one. -/
def fetchRow (c : Dev nD) (r : ℕ) : ℕ := if r < 256 then 256 * own c + r else 256 * diag c + (r - 256)

/-- The 512 rows fetched of half `z` of the partial sums. -/
def fetched (c : Dev nD) (z : ℕ) : (Mat 512).Idx → F .f32 :=
  fun i => part m c (Fin.cons (0 : Fin 1) (at2 2048 (1024 * z + fetchRow c (i 0).val) (i 1)))

/-- The rows of the pair's half, and of the device's own. -/
def peerRows (c : Dev nD) : (Mat 512).Idx → F .f32 := fetched m c (1 - c.val % 2)
def ownRows (c : Dev nD) : (Mat 512).Idx → F .f32 := fetched m c (c.val % 2)

/-- What is sent to the pair, and what the pair has sent. -/
def sentZ (c : Dev nD) : (Mat 512).Idx → F .bf16 := ofBlocks 512 fun k => k0_pay2 (blk 512 (128 * k) (peerRows m c))
def recvZ (c : Dev nD) : (Mat 512).Idx → F .bf16 := sentZ m (zp c)

/-- The finished rows of block `k` of the 512, and their narrowed copy. -/
def normed (c : Dev nD) (k : ℕ) : (Mat 128).Idx → F .f32 := k0_pay7 (gain m c) (blk 512 (128 * k) (ownRows m c)) (blk 512 (128 * k) (recvZ m c))
def normedB (c : Dev nD) (k : ℕ) : (Mat 128).Idx → F .bf16 := k0_pay8 (gain m c) (blk 512 (128 * k) (ownRows m c)) (blk 512 (128 * k) (recvZ m c))

/-- The own quarter and the diagonal one. -/
def ownQ (c : Dev nD) : (Mat 256).Idx → F .f32 := ofBlocks 256 fun k => normed m c k
def diagQ (c : Dev nD) : (Mat 256).Idx → F .f32 := ofBlocks 256 fun k => normed m c (k + 2)

/-- The narrowed own quarter, sent on to `xn c` and `yn c`. -/
def sentQ (c : Dev nD) : (Mat 256).Idx → F .bf16 := ofBlocks 256 fun k => normedB m c k

/-- The quarters received from `xn c` and from `yn c`. -/
def xQ (c : Dev nD) : (Mat 256).Idx → F .f32 := k0_pay15 (sentQ m (xn c))
def yQ (c : Dev nD) : (Mat 256).Idx → F .f32 := k0_pay15 (sentQ m (yn c))

/-- The result: each quarter of 256 rows from where it comes. -/
def result (c : Dev nD) : (Mat 1024).Idx → F .f32 := fun i =>
  if (i 0).val / 256 = own c then ownQ m c (at2 256 (i 0).val (i 1))
  else if (i 0).val / 256 = diag c then diagQ m c (at2 256 (i 0).val (i 1))
  else if (i 0).val / 256 = own (xn c) then xQ m c (at2 256 (i 0).val (i 1))
  else yQ m c (at2 256 (i 0).val (i 1))

end Contents

end Cert.RowNorm
-- ==== Proof.Protocol.lean ====
/-
# The devices' protocol

Each device has one barrier cell and the cells of 27 transfer semaphores, every one of which completes one round:

* the barrier, one unit from each of the three neighbours. With its unit a neighbour hands over the buffer it will be
  sent rows into: the pair its buffer for the rows across `z`, the other two their buffers for the finished quarters;
* cells 1 to 5, the rows fetched from the device's own partial sums; cells 6 to 11, the rows stored to the result;
* cells 12 to 15, the departure of the four blocks sent across `z`, and 16 to 19 the arrival of the pair's;
* cells 20, 21 (towards the other `x`) and 22, 23 (towards the other `y`), the departure of the two blocks of the own
  quarter, and 24, 25 and 26, 27 the arrival of the quarters of the other `x` and of the other `y`.

This module states what each cell's round carries, what each device owes at launch, and in which order of levels the
devices wait.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.RowNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

/-- The duties of a round: a transfer cell has duty `0`, the barrier cell one for each neighbour. -/
abbrev Du : Type := Fin 3
abbrev UB : Type := URounds (GSem nD τ sig) Du
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The cells -/

/-- The barrier semaphore. -/
abbrev barS : Sem sig := (SemArray.scalar (sig.barrier 0 rfl) : Sems sig S_).sem

/-- Cell `0` is the barrier's, cell `q` that of transfer semaphore `q`. -/
def csem : Fin 28 → SemLoc sig
  | ⟨0, _⟩ => .reg barS
  | ⟨n + 1, h⟩ => .dma ⟨n + 1, h⟩

/-- The transfer cells. -/
abbrev osem (q : Fin 27) : SemLoc sig := .dma ⟨q.val + 1, Nat.succ_lt_succ q.isLt⟩

abbrev kcell (p : Dev nD × Fin 28) : GSem nD τ sig := ((p.1 : Thread nD τ), csem p.2)

theorem csem_dma {q : Fin 28} (h : 0 < q.val) : csem q = .dma q := by
  obtain ⟨n, hn⟩ := q
  cases n with
  | zero => exact absurd h (Nat.lt_irrefl 0)
  | succ n => rfl

theorem csem_injective : Function.Injective csem := by decide

theorem kcell_injective : Function.Injective (kcell : Dev nD × Fin 28 → GSem nD τ sig) := by
  rintro ⟨c, q⟩ ⟨c', q'⟩ h
  have h1 : c = c' := congrArg (fun g : GSem nD τ sig => g.1.1) h
  have h2 : csem q = csem q' := congrArg Prod.snd h
  exact Prod.ext h1 (csem_injective h2)

/-! ## Amounts -/

/-- The credit of a transfer of 128 rows of singles, of 256 such rows, and of 128 rows of halves. -/
def credA : ℕ := Ref.dmaCredit main_v1 S128x1024 .f32
def credB : ℕ := Ref.dmaCredit main_v1 S256x1024 .f32
def credC : ℕ := Ref.dmaCredit cc0_scratch2 S128x1024 .bf16

/-- The amount of the round of a cell. -/
def amt (q : ℕ) : ℕ :=
  match q with
  | 0 => 3
  | 1 | 2 | 6 | 7 | 8 | 9 => credA
  | 3 | 4 | 5 | 10 | 11 => credB
  | _ => credC

theorem amt_pos (q : ℕ) : 0 < amt q := by
  have hA : 0 < credA := sig.dmaCredit_pos _ _ _ _ _ (by decide)
  have hB : 0 < credB := sig.dmaCredit_pos _ _ _ _ _ (by decide)
  have hC : 0 < credC := sig.dmaCredit_pos _ _ _ _ _ (by decide)
  unfold amt
  split <;> first | exact hA | exact hB | exact hC | decide

/-! ## Points-to assertions -/

/-- The elements `I` of a buffer of device `c`, at share `q`, holding `f`. -/
abbrev pts (c : Dev nD) (b : Ref sig .tc) (I : Finset (Idx ((c : Thread nD τ).loc b))) (q : PosShare TreeShare)
    (f : Buf (Elt F) ((c : Thread nD τ).loc b)) : sProp 𝕄 := ((c : Thread nD τ).loc b) ↦[I]{q} f

/-- The elements `I` of a buffer of device `c`, holding anything. -/
abbrev anyPts (c : Dev nD) (b : Ref sig .tc) (I : Finset (Idx ((c : Thread nD τ).loc b))) : sProp 𝕄 :=
  iprop(∃ f : Buf (Elt F) ((c : Thread nD τ).loc b), pts c b I fullShare f)

/-! ## What the rounds carry -/

/-- What a neighbour's signal of device `c`'s barrier hands over: the buffer of the neighbour that `c` will write to. -/
def barPay (c : Dev nD) (d : Du) : sProp 𝕄 :=
  match d with
  | 0 => anyPts (zp c) cc0_scratch3 Finset.univ
  | 1 => anyPts (xn c) cc0_scratch5 Finset.univ
  | 2 => anyPts (yn c) cc0_scratch6 Finset.univ

/-- What the round of transfer cell `q` of device `c` hands over: the rows the transfer has filled, and the rows it has
    read where the device uses them again. -/
def dmaPay (c : Dev nD) (q : ℕ) : sProp 𝕄 :=
  match q with
  | 1 => pts c cc0_scratch0 (rows 512 0 128) fullShare (peerRows m c)
  | 2 => pts c cc0_scratch0 (rows 512 128 128) fullShare (peerRows m c)
  | 3 => pts c cc0_scratch0 (rows 512 256 256) fullShare (peerRows m c)
  | 4 => pts c cc0_scratch1 (rows 512 0 256) fullShare (ownRows m c)
  | 5 => pts c cc0_scratch1 (rows 512 256 256) fullShare (ownRows m c)
  | 6 => iprop(pts c main_v1 (rows 1024 (256 * own c) 128) fullShare (result m c) ∗ pts c cc0_scratch7 (rows 256 0 128) fullShare (ownQ m c))
  | 7 => iprop(pts c main_v1 (rows 1024 (256 * own c + 128) 128) fullShare (result m c) ∗ pts c cc0_scratch7 (rows 256 128 128) fullShare (ownQ m c))
  | 8 => iprop(pts c main_v1 (rows 1024 (256 * diag c) 128) fullShare (result m c) ∗ pts c cc0_scratch8 (rows 256 0 128) fullShare (diagQ m c))
  | 9 => iprop(pts c main_v1 (rows 1024 (256 * diag c + 128) 128) fullShare (result m c) ∗ pts c cc0_scratch8 (rows 256 128 128) fullShare (diagQ m c))
  | 10 => iprop(pts c main_v1 (rows 1024 (256 * own (xn c)) 256) fullShare (result m c) ∗ pts c cc0_scratch9 (rows 256 0 256) fullShare (xQ m c))
  | 11 => iprop(pts c main_v1 (rows 1024 (256 * own (yn c)) 256) fullShare (result m c) ∗ pts c cc0_scratch10 (rows 256 0 256) fullShare (yQ m c))
  | 12 => pts c cc0_scratch2 (rows 512 0 128) fullShare (sentZ m c)
  | 13 => pts c cc0_scratch2 (rows 512 128 128) fullShare (sentZ m c)
  | 14 => pts c cc0_scratch2 (rows 512 256 128) fullShare (sentZ m c)
  | 15 => pts c cc0_scratch2 (rows 512 384 128) fullShare (sentZ m c)
  | 16 => pts c cc0_scratch3 (rows 512 0 128) fullShare (recvZ m c)
  | 17 => pts c cc0_scratch3 (rows 512 128 128) fullShare (recvZ m c)
  | 18 => pts c cc0_scratch3 (rows 512 256 128) fullShare (recvZ m c)
  | 19 => pts c cc0_scratch3 (rows 512 384 128) fullShare (recvZ m c)
  | 20 => pts c cc0_scratch4 (rows 256 0 128) fullShare.left (sentQ m c)
  | 21 => pts c cc0_scratch4 (rows 256 128 128) fullShare.left (sentQ m c)
  | 22 => pts c cc0_scratch4 (rows 256 0 128) fullShare.right (sentQ m c)
  | 23 => pts c cc0_scratch4 (rows 256 128 128) fullShare.right (sentQ m c)
  | 24 => pts c cc0_scratch5 (rows 256 0 128) fullShare (sentQ m (xn c))
  | 25 => pts c cc0_scratch5 (rows 256 128 128) fullShare (sentQ m (xn c))
  | 26 => pts c cc0_scratch6 (rows 256 0 128) fullShare (sentQ m (yn c))
  | 27 => pts c cc0_scratch6 (rows 256 128 128) fullShare (sentQ m (yn c))
  | _ => iprop(emp)

/-- One round of every cell: of the barrier one unit from each neighbour, of a transfer cell the transfer's credit. -/
def Sch : Rounds.Schedule (GSem nD τ sig) Du 𝕄 where
  duties g r := if r = 0 ∧ g.1.2 = .tc then (match g.2 with | .reg _ => Finset.univ | .dma _ => {0}) else ∅
  unitless _ := False
  amount g _ _ := match g.2 with | .reg _ => 1 | .dma q => amt q.val
  payload g _ d := match g.2 with | .reg _ => barPay g.1.1 d | .dma q => dmaPay m g.1.1 q.val
  amount_pos g _ _ _ := by
    split
    · exact Nat.one_pos
    · exact amt_pos _

instance barPay_storable (c : Dev nD) (d : Du) : BI.Storable (upEmb : UEmb _ 𝕄) (barPay (F := F) c d) := by
  unfold barPay
  split <;> infer_instance

instance dmaPay_storable (c : Dev nD) (q : ℕ) : BI.Storable (upEmb : UEmb _ 𝕄) (dmaPay m c q) := by
  unfold dmaPay
  split <;> infer_instance

instance Sch_storable (g : GSem nD τ sig) (r : ℕ) (d : Du) : BI.Storable (upEmb : UEmb _ 𝕄) ((Sch m).payload g r d) := by
  show BI.Storable (upEmb : UEmb _ 𝕄) (match g.2 with | .reg _ => barPay g.1.1 d | .dma q => dmaPay m g.1.1 q.val)
  split <;> infer_instance

section Sched
variable (c : Dev nD) {q : Fin 28}

theorem duties_later (g : GSem nD τ sig) : ∀ r, 1 ≤ r → (Sch m).duties g r = ∅ := fun r hr => if_neg fun h => by omega

theorem duties_bar : (Sch m).duties ((c : Thread nD τ), .reg barS) 0 = Finset.univ := by dsimp only [Sch]; exact if_pos ⟨rfl, rfl⟩
theorem amount_bar (d : Du) : (Sch m).amount ((c : Thread nD τ), .reg barS) 0 d = 1 := rfl
theorem payload_bar (d : Du) : (Sch m).payload ((c : Thread nD τ), .reg barS) 0 d = barPay c d := rfl
theorem expect_bar : (Sch m).expect ((c : Thread nD τ), .reg barS) 0 = 3 := by
  unfold Schedule.expect Schedule.amountOf
  rw [duties_bar, Finset.sum_congr rfl fun d _ => amount_bar m c d, Finset.sum_const, Finset.card_univ, Fintype.card_fin, smul_eq_mul]

/-- The whole of the barrier's round: the three neighbours' buffers. -/
theorem rest_bar : bigSep ((Sch m).duties ((c : Thread nD τ), .reg barS) 0 \ ∅) (fun d => (Sch m).payload ((c : Thread nD τ), .reg barS) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl

theorem duties_dma (h : 0 < q.val) : (Sch m).duties ((c : Thread nD τ), .dma q) 0 = {0} := by dsimp only [Sch]; exact if_pos ⟨rfl, rfl⟩
theorem amount_dma (h : 0 < q.val) (d : Du) : (Sch m).amount ((c : Thread nD τ), .dma q) 0 d = amt q.val := rfl
theorem payload_dma (h : 0 < q.val) (d : Du) : (Sch m).payload ((c : Thread nD τ), .dma q) 0 d = dmaPay m c q.val := rfl
theorem expect_dma (h : 0 < q.val) : (Sch m).expect ((c : Thread nD τ), .dma q) 0 = amt q.val := by
  unfold Schedule.expect Schedule.amountOf; rw [duties_dma m c h, Finset.sum_singleton, amount_dma m c h]
theorem rest_dma (h : 0 < q.val) : bigSep ((Sch m).duties ((c : Thread nD τ), .dma q) 0 \ ∅) (fun d => (Sch m).payload ((c : Thread nD τ), .dma q) 0 d)
    = dmaPay m c q.val := by
  rw [Finset.sdiff_empty, duties_dma m c h, bigSep_singleton, payload_dma m c h]

end Sched

/-! ## Debts and levels -/

/-- A debt: to which neighbour, to which cell of it, how much. -/
abbrev Debt : Type := (Dev nD → Dev nD) × Fin 28 × ℕ

/-- What a device still owes after its first `n` payments, which are the three signals, the four blocks across `z`, and in turn
    the blocks of the own quarter to the other `x` and the other `y`. -/
abbrev debts11 : List Debt := []
abbrev debts10 : List Debt := (yn, 27, credC) :: debts11
abbrev debts9 : List Debt := (xn, 25, credC) :: debts10
abbrev debts8 : List Debt := (yn, 26, credC) :: debts9
abbrev debts7 : List Debt := (xn, 24, credC) :: debts8
abbrev debts6 : List Debt := (zp, 19, credC) :: debts7
abbrev debts5 : List Debt := (zp, 18, credC) :: debts6
abbrev debts4 : List Debt := (zp, 17, credC) :: debts5
abbrev debts3 : List Debt := (zp, 16, credC) :: debts4
abbrev debts2 : List Debt := (yn, 0, 1) :: debts3
abbrev debts1 : List Debt := (xn, 0, 1) :: debts2
abbrev debts0 : List Debt := (zp, 0, 1) :: debts1

/-- The debts of a list, summed so that the first is the last summand. -/
def owing (c : Dev nD) : List Debt → CellTallies nD τ sig Unit
  | [] => 0
  | e :: l => owing c l + tallyAt (kcell (e.1 c, e.2.1)) () e.2.2

/-- A positive debt is to a cell of the list. -/
theorem owing_pos {c : Dev nD} {l : List Debt} {g : GSem nD τ sig} {u : Unit} (h : 0 < owing c l g u) :
    ∃ e ∈ l, g = kcell (e.1 c, e.2.1) := by
  induction l with
  | nil => exact absurd h (Nat.lt_irrefl 0)
  | cons e l ih =>
    unfold owing at h
    rw [Pi.add_apply, Finsupp.add_apply, tallyAt_apply] at h
    by_cases hg : g = kcell (e.1 c, e.2.1)
    · exact ⟨e, List.mem_cons_self .., hg⟩
    · rw [if_neg fun h' => hg h'.1, Nat.add_zero] at h
      obtain ⟨e', he', hg'⟩ := ih h
      exact ⟨e', List.mem_cons_of_mem _ he', hg'⟩

def L (g : GSem nD τ sig) : Finset Unit := if g.1.2 = .tc then {()} else ∅

/-- The order in which cells are waited for: the barriers, then the rows from across `z`, then the finished quarters; what a
    device completes by itself comes before all. -/
def lvq (q : ℕ) : ℕ := if q < 16 then 0 else if q < 20 then 2 else if q < 24 then 0 else 3
def lv (g : GSem nD τ sig) (_ : Unit) : ℕ := match g.2 with | .reg _ => 1 | .dma q => lvq q.val

theorem L_tc (c : Dev nD) (sm : SemLoc sig) : L ((c : Thread nD τ), sm) = {()} := if_pos rfl
theorem L_of_ne (g : GSem nD τ sig) (h : g.1.2 ≠ .tc) : L g = ∅ := if_neg h

/-- Waiting on a cell below the cells of all open debts is allowed. -/
theorem mayWait (c : Dev nD) (sm : SemLoc sig) (l : List Debt) (n : ℕ)
    (h1 : lv ((c : Thread nD τ), sm) () ≤ n) (h : ∀ e ∈ l, n < lv ((c : Thread nD τ), csem e.2.1) ()) :
    (levAts L lv : sProp 𝕄) ⊢ MayWait (c : Thread nD τ) sm () (owing c l) := by
  refine MayOwe.of_cut (L := L) (lev := lv) n (fun p hp => by rw [Finset.mem_singleton.mp hp, L_tc]; exact Finset.mem_singleton_self _)
    (fun g u hg => ?_) (fun p hp => by rw [Finset.mem_singleton.mp hp]; exact h1) (fun g u hg => ?_)
  · obtain ⟨e, -, rfl⟩ := owing_pos hg
    exact Finset.mem_singleton_self _
  · obtain ⟨e, he, rfl⟩ := owing_pos hg
    exact h e he

/-! ## What a device holds during the run -/

/-- What every device knows of all cells: their invariants, that round `0` is reached, and the levels. -/
def records (K : Dev nD × Fin 28 → ℕ) : sProp 𝕄 :=
  iprop(bigSep Finset.univ (fun p : Dev nD × Fin 28 => cellInv ER (Sch m) (K p) (kcell p))
    ∗ bigSep Finset.univ (fun p : Dev nD × Fin 28 => reached ER (kcell p) 0) ∗ levAts L lv)

instance records_persistent (K : Dev nD × Fin 28 → ℕ) : BI.Persistent (records m K) := by unfold records; infer_instance

theorem records_inv (K : Dev nD × Fin 28 → ℕ) (p : Dev nD × Fin 28) : records m K ⊢ cellInv ER (Sch m) (K p) (kcell p) := by
  unfold records
  exact sep_elim_left.trans (bigSep_elim (Φ := fun p : Dev nD × Fin 28 => cellInv ER (Sch m) (K p) (kcell p)) (Finset.mem_univ p))

theorem records_reached (K : Dev nD × Fin 28 → ℕ) (p : Dev nD × Fin 28) : records m K ⊢ reached ER (kcell p) 0 := by
  unfold records
  exact sep_elim_right.trans (sep_elim_left.trans (bigSep_elim (Φ := fun p : Dev nD × Fin 28 => (reached ER (kcell p) 0 : sProp 𝕄)) (Finset.mem_univ p)))

theorem records_lev (K : Dev nD × Fin 28 → ℕ) : records m K ⊢ levAts L lv := by
  unfold records
  iintro ⟨-, -, H⟩
  iexact H

/-- A cell of the device before the transfer it counts is issued, while it is under way, and closed. -/
def idle (c : Dev nD) (q : Fin 28) : sProp 𝕄 := iprop(atPos ER (kcell (c, q)) 0 ∅ 0 ∗ dutyTok ER (kcell (c, q)) 0 0)
def pend (c : Dev nD) (q : Fin 28) : sProp 𝕄 := iprop(atPos ER (kcell (c, q)) 0 ∅ 0 ∗ cred (tallyAt (kcell (c, q)) () (amt q.val)))
def closed (c : Dev nD) (q : Fin 28) : sProp 𝕄 := semVal (kcell (c, q)) 0

/-- What the device still owes. -/
def owe (c : Dev nD) (l : List Debt) : sProp 𝕄 := iprop(∃ W, owes (c : Thread nD τ) (owing c l) W)

end Cert.RowNorm
-- ==== Proof.Steps.lean ====
/-
# One effect of the program at a time

A rule for each kind of effect the kernel has, over what a device holds: a transfer within the device, a transfer to a
neighbour, a signal, a wait, a load and a store. In each the elements moved and their contents are named by ranges of rows
and by the contents the buffers are to hold.
-/
module

public import proofs.«01_k».proof.Proof.Protocol

@[expose] public section

set_option maxRecDepth 16384

noncomputable section

namespace Cert.RowNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 28 → ℕ)

/-- The program `p` of device `c` may run, ending in `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Rules

variable {α : Type} {Q : α → sProp (MT nD τ sig Unit (Elt F) ℕ UU ℕ)} {k : PUnit → Prog (TpuEff nD τ sig (Elt F) Λ₀ .tc) α} (c : Dev nD)

/-- A program that is over. -/
theorem runs_ret (a : α) : Q a ⊢ Runs c (.ret a) Q := by
  unfold Runs; rw [wp_ret]; exact fupd_intro

theorem kcell_dma {q : Fin 28} (h : 0 < q.val) (d : Dev nD) : kcell (d, q) = ((d : Thread nD τ), .dma q) := by
  unfold kcell; rw [csem_dma h]

theorem kcell_bar (d : Dev nD) : kcell (d, 0) = ((d : Thread nD τ), .reg barS) := rfl

/-- A transfer within the device, of the elements `J` of the source holding `fs`, to the elements `I` of the destination: what
    the destination is to hold, `G`, agrees with `fs` along the two views. -/
theorem step_copy (q : Fin 28) (hq : 0 < q.val) {sp sp' : Space} {s : Shape} {e : EltTy} {src : Memref sig .tc sp s e} {dst : Memref sig .tc sp' s e}
    {sem : DmaSem sig} {hsrc : src.view.WordExact} {hdst : dst.view.WordExact} {hsem : DmaTarget.Typed (nD := nD) (τ := τ) (p := Proc.tc) sp (.dma sem) (.here dst)}
    (hs : sem = q) {J : Finset (Idx (src.view.loc (c : Thread nD τ)))} {I : Finset (Idx (dst.view.loc (c : Thread nD τ)))}
    {sh : PosShare TreeShare} {fs : Buf (Elt F) (src.view.loc (c : Thread nD τ))} (G : Buf (Elt F) (dst.view.loc (c : Thread nD τ)))
    (hJ : src.view.set = J) (hI : dst.view.set = I) (hN : dst.view.dmaCredit = amt q.val)
    (hG : src.view.read (Elt F) fs = dst.view.read (Elt F) G)
    (hpay : iprop((dst.view.loc (c : Thread nD τ) ↦[I]{fullShare} G) ∗ (src.view.loc (c : Thread nD τ) ↦[J]{sh} fs)) ⊢ dmaPay m c q.val) :
    records m K ⊢ iprop((src.view.loc (c : Thread nD τ) ↦[J]{sh} fs) -∗ (∃ f, dst.view.loc (c : Thread nD τ) ↦[I]{fullShare} f) -∗ idle c q
      -∗ (pend c q -∗ Runs c (k ⟨⟩) Q)
      -∗ Runs c (.op (.enqueueDma src (.here dst) (.dma sem) hsrc hdst hsem) k) Q) := by
  subst hs hJ hI
  have hr := records_reached m K (c, sem)
  have hi := records_inv m K (c, sem)
  unfold idle pend
  rw [kcell_dma hq] at hr hi ⊢
  iintro #HR Hs ⟨%f, Hd⟩ ⟨Hat, Htok⟩ Hk
  iapply (Rounds.wp_copy_pointsTo 𝒱₀ ER (Sch m) (c : Thread nD τ) none (κ := K (c, sem)) (r := 0) (d := 0)
    (by rw [duties_dma m c hq]; exact Finset.mem_singleton_self _) () (amt sem.val) (show dst.view.amount (.dma sem) = amt sem.val from hN) (amount_dma m c hq 0)
    (by
      rw [payload_dma m c hq]
      refine BIBase.Entails.trans ?_ hpay
      refine sep_mono_left (Entails.of_eq (pointsTo_congr ?_))
      exact write_agrees dst.view f G _ hG)) $$ [Hs Hd Htok]
  · isplitr; · iapply hi; iexact HR
    isplitl [Hs]; · iexact Hs
    isplitl [Hd]; · iexact Hd
    isplitl [Htok]; · iexact Htok
    iapply hr; iexact HR
  iintro Hc
  iapply Hk
  isplitl [Hat]; · iexact Hat
  iexact Hc

/-- A transfer to the neighbour `n`, the next thing the device owes. -/
theorem step_send (n : Dev nD) (σ : Dev nD → Dev nD) (hn : n = σ c) (q₁ q₂ : Fin 28) (h₁ : 0 < q₁.val) (h₂ : 0 < q₂.val) {sp sp' : Space} {s : Shape} {e : EltTy}
    {src : Memref sig .tc sp s e} {dst : Memref sig .tc sp' s e}
    {sS sem : DmaSem sig} {hsc : (dst : Memref sig (Dev.tc n : Thread nD τ).2.kind sp' s e).view.ref.isScScratch = false}
    {hsrc : src.view.WordExact} {hdst : dst.view.WordExact}
    {hsem : DmaTarget.Typed (nD := nD) sp (.dma sem) (.remote (Dev.tc n : Thread nD τ) (dst : Memref sig (Dev.tc n : Thread nD τ).2.kind sp' s e) (.dma sS) hsc)}
    (hs₁ : sS = q₁) (hs₂ : sem = q₂) {J : Finset (Idx (src.view.loc (c : Thread nD τ)))} {I : Finset (Idx (dst.view.loc (σ c : Thread nD τ)))}
    {sh : PosShare TreeShare} {fs : Buf (Elt F) (src.view.loc (c : Thread nD τ))} (G : Buf (Elt F) (dst.view.loc (σ c : Thread nD τ)))
    {l : List Debt}
    (hJ : src.view.set = J) (hI : dst.view.set = I) (hN : dst.view.dmaCredit = credC) (hA₁ : amt q₁.val = credC) (hA₂ : amt q₂.val = credC)
    (hG : src.view.read (Elt F) fs = dst.view.read (Elt F) G)
    (hpay₁ : (src.view.loc (c : Thread nD τ) ↦[J]{sh} fs) ⊢ dmaPay m c q₁.val)
    (hpay₂ : (dst.view.loc (σ c : Thread nD τ) ↦[I]{fullShare} G) ⊢ dmaPay m (σ c) q₂.val) :
    records m K ⊢ iprop((src.view.loc (c : Thread nD τ) ↦[J]{sh} fs) -∗ (∃ f, dst.view.loc (σ c : Thread nD τ) ↦[I]{fullShare} f)
      -∗ owe c ((σ, q₂, credC) :: l) -∗ idle c q₁ -∗ dutyTok ER (kcell (σ c, q₂)) 0 0
      -∗ ((owe c l ∗ pend c q₁) -∗ Runs c (k ⟨⟩) Q)
      -∗ Runs c (.op (.enqueueDma src (.remote (Dev.tc n : Thread nD τ) dst (.dma sS) hsc) (.dma sem) hsrc hdst hsem) k) Q) := by
  subst hn hs₁ hs₂ hJ hI
  have hr := records_reached m K (c, sS)
  have hi := records_inv m K (c, sS)
  have hr' := records_reached m K (σ c, sem)
  have hi' := records_inv m K (σ c, sem)
  unfold idle pend owe
  rw [kcell_dma h₁] at hr hi ⊢
  rw [kcell_dma h₂] at hr' hi' ⊢
  iintro #HR Hs ⟨%f, Hd⟩ ⟨%W, Ho⟩ ⟨Hat, Htok⟩ Htok' Hk
  iapply (Rounds.wp_send_pointsTo 𝒱₀ ER (Sch m) (c : Thread nD τ) none (κ₁ := K (c, sS)) (κ₂ := K (σ c, sem)) (r₁ := 0) (r₂ := 0) (d₁ := 0) (d₂ := 0)
    (fd := f)
    (by rw [duties_dma m c h₁]; exact Finset.mem_singleton_self _) (by rw [duties_dma m (σ c) h₂]; exact Finset.mem_singleton_self _)
    () () credC (show dst.view.amount (.dma sem) = credC from hN) ((amount_dma m c h₁ 0).trans hA₁) ((amount_dma m (σ c) h₂ 0).trans hA₂) (owing c l)
    (by show owing c l + tallyAt (kcell (σ c, sem)) () credC = _; rw [kcell_dma h₂]) (W := W)
    (by rw [payload_dma m c h₁]; exact hpay₁)
    (by
      rw [payload_dma m (σ c) h₂]
      refine BIBase.Entails.trans (Entails.of_eq (pointsTo_congr ?_)) hpay₂
      exact write_agrees dst.view f G _ hG)) $$ [Hs Hd Ho Htok Htok']
  · isplitr; · iapply hi; iexact HR
    isplitr; · iapply hi'; iexact HR
    isplitl [Hs]; · iexact Hs
    isplitl [Hd]; · iexact Hd
    isplitl [Ho]; · iexact Ho
    isplitl [Htok]; · iexact Htok
    isplitr; · iapply hr; iexact HR
    isplitl [Htok']; · iexact Htok'
    iapply hr'; iexact HR
  iintro ⟨Hc, Ho⟩
  iapply Hk
  isplitl [Ho]; · iexists W; iexact Ho
  isplitl [Hat]; · iexact Hat
  rw [hA₁]; iexact Hc

/-- A signal to the barrier of the neighbour `n`, the next thing the device owes. -/
theorem step_signal (n : Dev nD) (σ : Dev nD → Dev nD) (hn : n = σ c) (d : Du) {k₁ : ℤ} (hk : k₁ = 1) {l : List Debt} :
    records m K ⊢ iprop(owe c ((σ, 0, 1) :: l) -∗ dutyTok ER (kcell (σ c, 0)) 0 d -∗ barPay (σ c) d
      -∗ (owe c l -∗ Runs c (k ⟨⟩) Q)
      -∗ Runs c (.op (.semSignal (Dev.tc n : Thread nD τ) barS k₁) k) Q) := by
  subst hn hk
  have hr := records_reached m K (σ c, 0)
  have hi := records_inv m K (σ c, 0)
  unfold owe
  rw [kcell_bar] at hr hi ⊢
  iintro #HR ⟨%W, Ho⟩ Htok Hp Hk
  iapply (Rounds.wp_signal 𝒱₀ ER (Sch m) (c : Thread nD τ) none (dst := (σ c : Thread nD τ)) (κ := K (σ c, 0)) (d := d)
    (by rw [duties_bar]; exact Finset.mem_univ d) (amount_bar m (σ c) d) () (owing c l) rfl) $$ [Ho Htok Hp]
  · isplitr; · iapply hi; iexact HR
    isplitl [Ho]; · iexact Ho
    isplitl [Htok]; · iexact Htok
    isplitl [Hp]; · rw [payload_bar]; iexact Hp
    iapply hr; iexact HR
  iintro Ho
  iapply Hk
  iexists W; iexact Ho

/-- The level of a cell. -/
def lvc (q : Fin 28) : ℕ := if q.val = 0 then 1 else lvq q.val

theorem lv_csem (q : Fin 28) : lv ((c : Thread nD τ), csem q) () = lvc q := by
  obtain ⟨n, hn⟩ := q
  cases n with
  | zero => rfl
  | succ n => rfl

/-- The wait for the three neighbours: their buffers come with it, and the barrier's cell closes. -/
theorem step_barrier {k₃ : ℤ} (hk : k₃ = 3) {l : List Debt} (hl : ∀ e ∈ l, 1 < lvc e.2.1) :
    records m K ⊢ iprop(pend c 0 -∗ owe c l
      -∗ ((owe c l ∗ closed c 0 ∗ barPay c 0 ∗ barPay c 1 ∗ barPay c 2) -∗ Runs c (k ⟨⟩) Q)
      -∗ Runs c (.op (.semWait barS k₃) k) Q) := by
  subst hk
  have hi := records_inv m K (c, 0)
  have hlev := (records_lev m K).trans (mayWait (F := F) c (csem 0) l 1 (by rw [lv_csem]; decide) (fun e he => by rw [lv_csem]; exact hl e he))
  unfold pend owe closed
  rw [kcell_bar] at hi ⊢
  rw [show csem 0 = .reg barS from rfl] at hlev
  iintro #HR ⟨Hat, Hc⟩ ⟨%W, Ho⟩ Hk
  iapply (Rounds.wp_wait_rest_token 𝒱₀ ER (Sch m) (c : Thread nD τ) none (κ := K (c, 0))
    (wpE_semWait_eq 𝒱₀ (c : Thread nD τ) none Set.univ) (Set.mem_univ _) () (O := owing c l) (W := W) (R := 0) (m := 0) (T := ∅)
    (by rw [Nat.zero_add]; exact (expect_bar m c).symm)) $$ [Hat Hc Ho]
  · isplitr; · iapply hi; iexact HR
    isplitl [Hc]; · iexact Hc
    isplitl [Ho]; · iexact Ho
    isplitr; · iapply hlev; iexact HR
    iexact Hat
  iintro ⟨Ho, Hat, -, Hp⟩
  ihave Hp := (Entails.of_eq (rest_bar m c)) $$ Hp
  imod (Rounds.cell_close ER (Sch m) (Set.mem_univ (K (c, 0))) (fun h => h) (R := 0 + 1) (duties_later m ((c : Thread nD τ), .reg barS))) $$ [Hat] with Hz
  · isplitr; · iapply hi; iexact HR
    iexact Hat
  iapply Hk
  isplitl [Ho]; · iexists _; iexact Ho
  isplitl [Hz]; · iexact Hz
  iexact Hp

/-- The wait for a transfer: what its round carries comes with it, and the cell closes. -/
theorem step_wait (q : Fin 28) (hq : 0 < q.val) {sp sp' : Space} {s s' : Shape} {e e' : EltTy} {src : Memref sig .tc sp s e} {dst : Memref sig .tc sp' s' e'}
    {sem : DmaSem sig} {hsrc : src.view.WordExact} {hdst : dst.view.WordExact} (hs : sem = q) (hN : dst.view.dmaCredit = amt q.val)
    {l : List Debt} (hl : ∀ e ∈ l, lvc q < lvc e.2.1) :
    records m K ⊢ iprop(pend c q -∗ owe c l
      -∗ ((owe c l ∗ closed c q ∗ dmaPay m c q.val) -∗ Runs c (k ⟨⟩) Q)
      -∗ Runs c (.op (.waitDma2 sem src dst hsrc hdst) k) Q) := by
  subst hs
  have hi := records_inv m K (c, sem)
  have hlev := (records_lev m K).trans (mayWait (F := F) c (csem sem) l (lvc sem) (by rw [lv_csem]) (fun e he => by rw [lv_csem]; exact hl e he))
  unfold pend owe closed
  rw [kcell_dma hq] at hi ⊢
  rw [csem_dma hq] at hlev
  iintro #HR ⟨Hat, Hc⟩ ⟨%W, Ho⟩ Hk
  iapply (Rounds.wp_wait_rest_token 𝒱₀ ER (Sch m) (c : Thread nD τ) none (κ := K (c, sem))
    (wpE_waitDma2_eq 𝒱₀ (c : Thread nD τ) none Set.univ) (Set.mem_univ _) () (O := owing c l) (W := W) (R := 0) (m := 0) (T := ∅)
    (by rw [Nat.zero_add, hN]; exact (expect_dma m c hq).symm)) $$ [Hat Hc Ho]
  · isplitr; · iapply hi; iexact HR
    isplitl [Hc]; · rw [hN]; iexact Hc
    isplitl [Ho]; · iexact Ho
    isplitr; · iapply hlev; iexact HR
    iexact Hat
  iintro ⟨Ho, Hat, -, Hp⟩
  ihave Hp := (Entails.of_eq (rest_dma m c hq)) $$ Hp
  imod (Rounds.cell_close ER (Sch m) (Set.mem_univ (K (c, sem))) (fun h => h) (R := 0 + 1) (duties_later m ((c : Thread nD τ), .dma sem))) $$ [Hat] with Hz
  · isplitr; · iapply hi; iexact HR
    iexact Hat
  iapply Hk
  isplitl [Ho]; · iexists _; iexact Ho
  isplitl [Hz]; · iexact Hz
  iexact Hp

/-- A load of elements the device holds: the program goes on with what they hold. -/
theorem step_load {cs : CoreSpace} {s : Shape} {e : EltTy} {b : Memref sig .tc cs s e} {r : Rect s} {hl : b.view.LoadsAt r}
    {k : (r.shape.Idx → Elt F e) → Prog (TpuEff nD τ sig (Elt F) Λ₀ .tc) α}
    {S : Finset (Idx ((b.access r).loc (c : Thread nD τ)))} {sh : PosShare TreeShare} {f : Buf (Elt F) ((b.access r).loc (c : Thread nD τ))}
    (v : r.shape.Idx → Elt F e) (hS : (b.access r).set ⊆ S) (hv : (b.access r).read (Elt F) f = v) :
    ((b.access r).loc (c : Thread nD τ) ↦[S]{sh} f)
      ⊢ iprop((((b.access r).loc (c : Thread nD τ) ↦[S]{sh} f) -∗ Runs c (k v) Q) -∗ Runs c (.op (.load b r hl) k) Q) := by
  subst hv
  exact wp_load_rect 𝒱₀ (c : Thread nD τ) none Set.univ hS

/-- A load whose value is not used, of elements holding anything. -/
theorem step_load_any {cs : CoreSpace} {s : Shape} {e : EltTy} {b : Memref sig .tc cs s e} {r : Rect s} {hl : b.view.LoadsAt r}
    {k : (r.shape.Idx → Elt F e) → Prog (TpuEff nD τ sig (Elt F) Λ₀ .tc) α} {p : Prog (TpuEff nD τ sig (Elt F) Λ₀ .tc) α}
    {S : Finset (Idx ((b.access r).loc (c : Thread nD τ)))}
    (hS : (b.access r).set ⊆ S) (hk : ∀ v, k v = p) :
    iprop(∃ f, (b.access r).loc (c : Thread nD τ) ↦[S]{fullShare} f)
      ⊢ iprop(((∃ f, (b.access r).loc (c : Thread nD τ) ↦[S]{fullShare} f) -∗ Runs c p Q) -∗ Runs c (.op (.load b r hl) k) Q) := by
  iintro ⟨%f, H⟩ Hk
  iapply (wp_load_rect 𝒱₀ (c : Thread nD τ) none Set.univ hS) $$ H
  iintro H
  rw [hk]
  iapply Hk
  iexists f; iexact H

/-- A store of the whole of the elements `S`, which then hold `G`. -/
theorem step_store {cs : CoreSpace} {s : Shape} {e : EltTy} {b : Memref sig .tc cs s e} {r : Rect s} {w : r.shape.Idx → Elt F e}
    {hx : (b.access r).Stores Finset.univ} {hm : (Finset.univ : Finset r.shape.Idx) = Finset.univ ∨ ∀ a, r.stride a = 1}
    {S : Finset (Idx ((b.access r).loc (c : Thread nD τ)))} (G : Buf (Elt F) ((b.access r).loc (c : Thread nD τ)))
    (hS : (b.access r).set = S) (hG : w = (b.access r).read (Elt F) G) :
    iprop(∃ f, (b.access r).loc (c : Thread nD τ) ↦[S]{fullShare} f)
      ⊢ iprop((((b.access r).loc (c : Thread nD τ) ↦[S]{fullShare} G) -∗ Runs c (k ⟨⟩) Q) -∗ Runs c (.op (.store b r w Finset.univ hx hm) k) Q) := by
  subst hS
  iintro ⟨%f, H⟩ Hk
  iapply (wp_store 𝒱₀ (c : Thread nD τ) none Set.univ (by rw [View.setOn_univ])) $$ H
  iintro H
  iapply Hk
  iapply (Entails.of_eq (pointsTo_congr (write_agrees (b.access r) f G w hG))) $$ H

/-- A load whose value is not used, then a store, of the same elements. -/
theorem step_put {cs : CoreSpace} {s : Shape} {e : EltTy} {b : Memref sig .tc cs s e} {r : Rect s} {w : r.shape.Idx → Elt F e}
    {hl : b.view.LoadsAt r} {hx : (b.access r).Stores Finset.univ} {hm : (Finset.univ : Finset r.shape.Idx) = Finset.univ ∨ ∀ a, r.stride a = 1}
    {S : Finset (Idx ((b.access r).loc (c : Thread nD τ)))} (G : Buf (Elt F) ((b.access r).loc (c : Thread nD τ)))
    (hS : (b.access r).set = S) (hG : w = (b.access r).read (Elt F) G) :
    iprop(∃ f, (b.access r).loc (c : Thread nD τ) ↦[S]{fullShare} f)
      ⊢ iprop((((b.access r).loc (c : Thread nD τ) ↦[S]{fullShare} G) -∗ Runs c (k ⟨⟩) Q)
        -∗ Runs c (.op (.load b r hl) fun _ => .op (.store b r w Finset.univ hx hm) k) Q) := by
  iintro H Hk
  iapply (step_load_any c (p := .op (.store b r w Finset.univ hx hm) k) (by rw [hS]) (fun _ => rfl)) $$ H
  iintro H
  iapply (step_store c G hS hG) $$ H
  iexact Hk

end Rules

end Cert.RowNorm
-- ==== Proof.Moves.lean ====
/-
# The kernel's moves

Each transfer, load and store the kernel makes, at its buffers: the rows it moves and what they hold, from the rules for
single effects. The kernel's four transfers across `z` are one lemma at a symbolic row, and so on for the others.
-/
module

public import proofs.«01_k».proof.Proof.Steps

@[expose] public section

set_option maxRecDepth 16384

noncomputable section

namespace Cert.RowNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 28 → ℕ)

/-- A piece of the kernel on its memrefs: the partial sums, the gains, the result, the eleven buffers and the six semaphore arrays. -/
abbrev onBufs {β : Type 1} (f : (arg0 : Memref sig .tc .hbm S1x2048x1024 .f32) → (harg0 : arg0.IsWhole) → (arg1 : Memref sig .tc .vmem S1024 .f32) → (harg1 : arg1.IsWhole) → (arg2 : Memref sig .tc .hbm S1024x1024 .f32) → (harg2 : arg2.IsWhole) → (arg3 : Memref sig .tc .vmem S512x1024 .f32) → (harg3 : arg3.IsWhole) → (arg4 : Memref sig .tc .vmem S512x1024 .f32) → (harg4 : arg4.IsWhole) → (arg5 : Memref sig .tc .vmem S512x1024 .bf16) → (harg5 : arg5.IsWhole) → (arg6 : Memref sig .tc .vmem S512x1024 .bf16) → (harg6 : arg6.IsWhole) → (arg7 : Memref sig .tc .vmem S256x1024 .bf16) → (harg7 : arg7.IsWhole) → (arg8 : Memref sig .tc .vmem S256x1024 .bf16) → (harg8 : arg8.IsWhole) → (arg9 : Memref sig .tc .vmem S256x1024 .bf16) → (harg9 : arg9.IsWhole) → (arg10 : Memref sig .tc .vmem S256x1024 .f32) → (harg10 : arg10.IsWhole) → (arg11 : Memref sig .tc .vmem S256x1024 .f32) → (harg11 : arg11.IsWhole) → (arg12 : Memref sig .tc .vmem S256x1024 .f32) → (harg12 : arg12.IsWhole) → (arg13 : Memref sig .tc .vmem S256x1024 .f32) → (harg13 : arg13.IsWhole) → (arg14 : DmaSems sig S5) → (arg15 : DmaSems sig S6) → (arg16 : DmaSems sig S4) → (arg17 : DmaSems sig S4) → (arg18 : DmaSems sig S4) → (arg19 : DmaSems sig S4) → β) : β :=
  f (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16

/-- The kernel's pieces on their memrefs. -/
abbrev part1 := onBufs (k0_part1 (F := F))
abbrev part2 := onBufs (k0_part2 (F := F))
abbrev part3 := onBufs (k0_part3 (F := F))
abbrev part4 := onBufs (k0_part4 (F := F))
abbrev part5 := onBufs (k0_part5 (F := F))
abbrev part6 := onBufs (k0_part6 (F := F))
abbrev part7 := onBufs (k0_part7 (F := F))
abbrev part8 := onBufs (k0_part8 (F := F))
abbrev part9 := onBufs (k0_part9 (F := F))
abbrev part10 := onBufs (k0_part10 (F := F))
abbrev part11 := onBufs (k0_part11 (F := F))
abbrev part12 := onBufs (k0_part12 (F := F))
abbrev part13 := onBufs (k0_part13 (F := F))
abbrev part14 := onBufs (k0_part14 (F := F))
abbrev part15 := onBufs (k0_part15 (F := F))
abbrev part16 := onBufs (k0_part16 (F := F))

/-! ## What slices read -/

/-- The contents under a slice of whole rows of a buffer. -/
theorem read_slab {n R : ℕ} [NeZero R] {sp : Space} {e : EltTy} (v : View sig .tc sp (Mat R) e) {off : Fin 2 → ℕ}
    (inb : ∀ a, off a + (Mat n).size a ≤ (Mat R).size a) {o : ℕ} (h : off = ![o, 0]) (f : v.ty.Contents (Elt F)) :
    (v.slice (Rect.unit (s := Mat R) off (Mat n).size inb)).read (Elt F) f = slab n R o (v.read (Elt F) f) :=
  funext fun x => congrArg (v.read (Elt F) f) (rect_emb inb h x)

/-- The shape of one row range of the partial sums. -/
abbrev Mat1 (n : ℕ) : Shape := ⟨3, ![1, n, 1024]⟩

/-- The rows from `off` of the partial sums, without their leading coordinate. -/
theorem read_part {n : ℕ} {off : Fin 3 → ℕ} (inb : ∀ a, off a + (Mat1 n).size a ≤ S1x2048x1024.size a) {o : ℕ} (ho : off = ![0, o, 0])
    (hsq : (Mat1 n).Squeezes (Mat n)) {hr} (f : S1x2048x1024.Idx → Elt F .f32) (x : (Mat n).Idx) :
    ((((Memref.whole main_arg0).slice (Rect.unit (s := S1x2048x1024) off (Mat1 n).size inb) hr).squeeze (Mat n) hsq).view.read (Elt F) f : (Mat n).Idx → Elt F .f32) x
      = f (Fin.cons (0 : Fin 1) (at2 2048 (o + (x 0).val) (x 1))) := by
  subst ho
  have hn : o + n ≤ 2048 := inb 1
  have hx : (x 0).val < n := (x 0).isLt
  show f ((Rect.unit (s := S1x2048x1024) ![0, o, 0] (Mat1 n).size inb).emb (Shape.reshapeEquiv hsq.numel_eq x)) = _
  rw [Shape.reshapeEquiv_cons_one (n := 2) (d := ![n, 1024])]
  congr 1
  funext a
  apply Fin.ext
  match a with
  | ⟨0, _⟩ => rfl
  | ⟨1, _⟩ =>
    show o + 1 * (x 0).val = (o + (x 0).val) % 2048
    rw [Nat.mod_eq_of_lt (by omega)]; omega
  | ⟨2, _⟩ =>
    show 0 + 1 * (x 1).val = (x 1).val
    omega

/-! ## What the contents are, block by block -/

theorem recvZ_zp (c : Dev nD) : recvZ m (zp c) = sentZ m c := by unfold recvZ; rw [zp_zp]

theorem blk_sentZ (c : Dev nD) (k : ℕ) (hk : 128 * k + 128 ≤ 512) : blk 512 (128 * k) (sentZ m c) = k0_pay2 (blk 512 (128 * k) (peerRows m c)) :=
  funext fun x => blk_ofBlocks 512 (fun k => k0_pay2 (blk 512 (128 * k) (peerRows m c))) hk x
theorem blk_ownQ (c : Dev nD) (k : ℕ) (hk : 128 * k + 128 ≤ 256) : blk 256 (128 * k) (ownQ m c) = normed m c k :=
  funext fun x => blk_ofBlocks 256 _ hk x
theorem blk_diagQ (c : Dev nD) (k : ℕ) (hk : 128 * k + 128 ≤ 256) : blk 256 (128 * k) (diagQ m c) = normed m c (k + 2) :=
  funext fun x => blk_ofBlocks 256 (fun k => normed m c (k + 2)) hk x
theorem blk_sentQ (c : Dev nD) (k : ℕ) (hk : 128 * k + 128 ≤ 256) : blk 256 (128 * k) (sentQ m c) = normedB m c k :=
  funext fun x => blk_ofBlocks 256 _ hk x

/-! ## The moves -/

section Moves

variable {α : Type} {Q : α → sProp (MT nD τ sig Unit (Elt F) ℕ UU ℕ)} {k : PUnit → Prog (TpuEff nD τ sig (Elt F) Λ₀ .tc) α} (c : Dev nD)

/-- `n` rows from row `o` of a buffer of 512, or of 256, or of 1024 rows. -/
abbrev InRows (n R o : ℕ) : Prop := ∀ a, (![o, 0] : Fin 2 → ℕ) a + (Mat n).size a ≤ (Mat R).size a
abbrev sliceOf {sp : Space} {e : EltTy} {R : ℕ} (n : ℕ) (b : Memref sig .tc sp (Mat R) e) (o : ℕ) (inb : InRows n R o) : Memref sig .tc sp (Mat n) e :=
  b.slice (Rect.unit (s := Mat R) ![o, 0] (Mat n).size inb) (fun _ => rfl)
abbrev rectOf (n R o : ℕ) (inb : InRows n R o) : Rect (Mat R) := Rect.unit (s := Mat R) ![o, 0] (Mat n).size inb

/-- `n` rows of the partial sums are fetched into the buffer of the pair's half. -/
theorem fetchPeer (n : ℕ) (q : Fin 28) (hq : 0 < q.val) {off : Fin 3 → ℕ} {inb : ∀ a, off a + (Mat1 n).size a ≤ S1x2048x1024.size a} {hr}
    (hsq : (Mat1 n).Squeezes (Mat n)) {o : ℕ} {inb' : InRows n 512 o} {sem : DmaSem sig} {hsrc hdst hsem} (hs : sem = q) {p : ℕ} (hp : off = ![0, p, 0])
    (hrow : ∀ r < n, p + r = 1024 * (1 - c.val % 2) + fetchRow c (o + r)) (sh : PosShare TreeShare)
    (hN : Ref.dmaCredit cc0_scratch0 (Mat n) .f32 = amt q.val) (hpay : dmaPay m c q.val = pts c cc0_scratch0 (rows 512 o n) fullShare (peerRows m c)) :
    records m K ⊢ iprop(pts c main_arg0 Finset.univ sh (part m c) -∗ anyPts c cc0_scratch0 (rows 512 o n) -∗ idle c q
      -∗ (pend c q -∗ Runs c (k ⟨⟩) Q)
      -∗ Runs c (.op (.enqueueDma (((Memref.whole main_arg0).slice (Rect.unit (s := S1x2048x1024) off (Mat1 n).size inb) hr).squeeze (Mat n) hsq)
          (.here (sliceOf n (Memref.whole cc0_scratch0) o inb')) (.dma sem) hsrc hdst hsem) k) Q) := by
  have hb : o + n ≤ 512 := inb' 0
  have h := step_copy m K c (Q := Q) (k := k) q hq (src := ((Memref.whole main_arg0).slice (Rect.unit (s := S1x2048x1024) off (Mat1 n).size inb) hr).squeeze (Mat n) hsq)
    (dst := sliceOf n (Memref.whole cc0_scratch0) o inb') (hsrc := hsrc) (hdst := hdst) (hsem := hsem) hs (sh := sh) (fs := part m c) (peerRows m c) rfl
    ((View.set_slice_whole _ _).trans (rect_set _ rfl)) hN
    (by
      refine Eq.trans (funext fun x => ?_) (read_slab (F := F) (View.whole cc0_scratch0) inb' rfl (peerRows m c)).symm
      have hx : (x 0).val < n := (x 0).isLt
      refine (read_part inb hp hsq (part m c) x).trans ?_
      show part m c (Fin.cons (0 : Fin 1) (at2 2048 (p + (x 0).val) (x 1)))
        = part m c (Fin.cons (0 : Fin 1) (at2 2048 (1024 * (1 - c.val % 2) + fetchRow c ((o + (x 0).val) % 512)) (x 1)))
      rw [show (o + (x 0).val) % 512 = o + (x 0).val from Nat.mod_eq_of_lt (by omega), hrow _ hx])
    (by rw [hpay]; exact sep_elim_left)
  iintro #HR Hs Hd Hi Hk
  ihave Hs := (pointsTo_split_subset (Finset.subset_univ _)).1 $$ Hs
  icases Hs with ⟨Hs, -⟩
  iapply h $$ HR Hs Hd Hi Hk

/-- `n` rows of the partial sums are fetched into the buffer of the own half. -/
theorem fetchOwn (n : ℕ) (q : Fin 28) (hq : 0 < q.val) {off : Fin 3 → ℕ} {inb : ∀ a, off a + (Mat1 n).size a ≤ S1x2048x1024.size a} {hr}
    (hsq : (Mat1 n).Squeezes (Mat n)) {o : ℕ} {inb' : InRows n 512 o} {sem : DmaSem sig} {hsrc hdst hsem} (hs : sem = q) {p : ℕ} (hp : off = ![0, p, 0])
    (hrow : ∀ r < n, p + r = 1024 * (c.val % 2) + fetchRow c (o + r)) (sh : PosShare TreeShare)
    (hN : Ref.dmaCredit cc0_scratch1 (Mat n) .f32 = amt q.val) (hpay : dmaPay m c q.val = pts c cc0_scratch1 (rows 512 o n) fullShare (ownRows m c)) :
    records m K ⊢ iprop(pts c main_arg0 Finset.univ sh (part m c) -∗ anyPts c cc0_scratch1 (rows 512 o n) -∗ idle c q
      -∗ (pend c q -∗ Runs c (k ⟨⟩) Q)
      -∗ Runs c (.op (.enqueueDma (((Memref.whole main_arg0).slice (Rect.unit (s := S1x2048x1024) off (Mat1 n).size inb) hr).squeeze (Mat n) hsq)
          (.here (sliceOf n (Memref.whole cc0_scratch1) o inb')) (.dma sem) hsrc hdst hsem) k) Q) := by
  have hb : o + n ≤ 512 := inb' 0
  have h := step_copy m K c (Q := Q) (k := k) q hq (src := ((Memref.whole main_arg0).slice (Rect.unit (s := S1x2048x1024) off (Mat1 n).size inb) hr).squeeze (Mat n) hsq)
    (dst := sliceOf n (Memref.whole cc0_scratch1) o inb') (hsrc := hsrc) (hdst := hdst) (hsem := hsem) hs (sh := sh) (fs := part m c) (ownRows m c) rfl
    ((View.set_slice_whole _ _).trans (rect_set _ rfl)) hN
    (by
      refine Eq.trans (funext fun x => ?_) (read_slab (F := F) (View.whole cc0_scratch1) inb' rfl (ownRows m c)).symm
      have hx : (x 0).val < n := (x 0).isLt
      refine (read_part inb hp hsq (part m c) x).trans ?_
      show part m c (Fin.cons (0 : Fin 1) (at2 2048 (p + (x 0).val) (x 1)))
        = part m c (Fin.cons (0 : Fin 1) (at2 2048 (1024 * (c.val % 2) + fetchRow c ((o + (x 0).val) % 512)) (x 1)))
      rw [show (o + (x 0).val) % 512 = o + (x 0).val from Nat.mod_eq_of_lt (by omega), hrow _ hx])
    (by rw [hpay]; exact sep_elim_left)
  iintro #HR Hs Hd Hi Hk
  ihave Hs := (pointsTo_split_subset (Finset.subset_univ _)).1 $$ Hs
  icases Hs with ⟨Hs, -⟩
  iapply h $$ HR Hs Hd Hi Hk

/-- A block across `z`. -/
theorem sendZ (n : Dev nD) (hn : n = zp c) {o : ℕ} {inb : InRows 128 512 o} (q₁ q₂ : Fin 28) (h₁ : 0 < q₁.val) (h₂ : 0 < q₂.val)
    {sS sem : DmaSem sig} {hsc hsrc hdst hsem} (hs₁ : sS = q₁) (hs₂ : sem = q₂) (hA₁ : amt q₁.val = credC) (hA₂ : amt q₂.val = credC)
    (hpay₁ : dmaPay m c q₁.val = pts c cc0_scratch2 (rows 512 o 128) fullShare (sentZ m c))
    (hpay₂ : dmaPay m (zp c) q₂.val = pts (zp c) cc0_scratch3 (rows 512 o 128) fullShare (recvZ m (zp c))) {l : List Debt} :
    records m K ⊢ iprop(pts c cc0_scratch2 (rows 512 o 128) fullShare (sentZ m c) -∗ anyPts (zp c) cc0_scratch3 (rows 512 o 128)
      -∗ owe c ((zp, q₂, credC) :: l) -∗ idle c q₁ -∗ dutyTok ER (kcell (zp c, q₂)) 0 0
      -∗ ((owe c l ∗ pend c q₁) -∗ Runs c (k ⟨⟩) Q)
      -∗ Runs c (.op (.enqueueDma (sliceOf 128 (Memref.whole cc0_scratch2) o inb)
          (.remote (Dev.tc n : Thread nD τ) (sliceOf 128 (Memref.whole cc0_scratch3) o inb) (.dma sS) hsc) (.dma sem) hsrc hdst hsem) k) Q) :=
  step_send m K c n zp hn q₁ q₂ h₁ h₂ hs₁ hs₂ (src := sliceOf 128 (Memref.whole cc0_scratch2) o inb) (dst := sliceOf 128 (Memref.whole cc0_scratch3) o inb)
    (recvZ m (zp c)) ((View.set_slice_whole _ _).trans (rect_set _ rfl)) ((View.set_slice_whole _ _).trans (rect_set _ rfl)) rfl hA₁ hA₂
    ((read_slab (F := F) (View.whole cc0_scratch2) inb rfl (sentZ m c)).trans
      ((congrArg (slab 128 512 o) (recvZ_zp m c).symm).trans (read_slab (F := F) (View.whole cc0_scratch3) inb rfl (recvZ m (zp c))).symm))
    (Entails.of_eq hpay₁.symm) (Entails.of_eq hpay₂.symm)

/-- A block of the own quarter to the other `x`. -/
theorem sendX (n : Dev nD) (hn : n = xn c) {o : ℕ} {inb : InRows 128 256 o} (q₁ q₂ : Fin 28) (h₁ : 0 < q₁.val) (h₂ : 0 < q₂.val)
    {sS sem : DmaSem sig} {hsc hsrc hdst hsem} (hs₁ : sS = q₁) (hs₂ : sem = q₂) (hA₁ : amt q₁.val = credC) (hA₂ : amt q₂.val = credC)
    (hpay₁ : dmaPay m c q₁.val = pts c cc0_scratch4 (rows 256 o 128) fullShare.left (sentQ m c))
    (hpay₂ : dmaPay m (xn c) q₂.val = pts (xn c) cc0_scratch5 (rows 256 o 128) fullShare (sentQ m (xn (xn c)))) {l : List Debt} :
    records m K ⊢ iprop(pts c cc0_scratch4 (rows 256 o 128) fullShare.left (sentQ m c) -∗ anyPts (xn c) cc0_scratch5 (rows 256 o 128)
      -∗ owe c ((xn, q₂, credC) :: l) -∗ idle c q₁ -∗ dutyTok ER (kcell (xn c, q₂)) 0 0
      -∗ ((owe c l ∗ pend c q₁) -∗ Runs c (k ⟨⟩) Q)
      -∗ Runs c (.op (.enqueueDma (sliceOf 128 (Memref.whole cc0_scratch4) o inb)
          (.remote (Dev.tc n : Thread nD τ) (sliceOf 128 (Memref.whole cc0_scratch5) o inb) (.dma sS) hsc) (.dma sem) hsrc hdst hsem) k) Q) :=
  step_send m K c n xn hn q₁ q₂ h₁ h₂ hs₁ hs₂ (src := sliceOf 128 (Memref.whole cc0_scratch4) o inb) (dst := sliceOf 128 (Memref.whole cc0_scratch5) o inb)
    (sentQ m (xn (xn c))) ((View.set_slice_whole _ _).trans (rect_set _ rfl)) ((View.set_slice_whole _ _).trans (rect_set _ rfl)) rfl hA₁ hA₂
    ((read_slab (F := F) (View.whole cc0_scratch4) inb rfl (sentQ m c)).trans
      ((congrArg (slab 128 256 o) ((congrArg (sentQ m) (xn_xn c))).symm).trans (read_slab (F := F) (View.whole cc0_scratch5) inb rfl (sentQ m (xn (xn c)))).symm))
    (Entails.of_eq hpay₁.symm) (Entails.of_eq hpay₂.symm)

/-- A block of the own quarter to the other `y`. -/
theorem sendY (n : Dev nD) (hn : n = yn c) {o : ℕ} {inb : InRows 128 256 o} (q₁ q₂ : Fin 28) (h₁ : 0 < q₁.val) (h₂ : 0 < q₂.val)
    {sS sem : DmaSem sig} {hsc hsrc hdst hsem} (hs₁ : sS = q₁) (hs₂ : sem = q₂) (hA₁ : amt q₁.val = credC) (hA₂ : amt q₂.val = credC)
    (hpay₁ : dmaPay m c q₁.val = pts c cc0_scratch4 (rows 256 o 128) fullShare.right (sentQ m c))
    (hpay₂ : dmaPay m (yn c) q₂.val = pts (yn c) cc0_scratch6 (rows 256 o 128) fullShare (sentQ m (yn (yn c)))) {l : List Debt} :
    records m K ⊢ iprop(pts c cc0_scratch4 (rows 256 o 128) fullShare.right (sentQ m c) -∗ anyPts (yn c) cc0_scratch6 (rows 256 o 128)
      -∗ owe c ((yn, q₂, credC) :: l) -∗ idle c q₁ -∗ dutyTok ER (kcell (yn c, q₂)) 0 0
      -∗ ((owe c l ∗ pend c q₁) -∗ Runs c (k ⟨⟩) Q)
      -∗ Runs c (.op (.enqueueDma (sliceOf 128 (Memref.whole cc0_scratch4) o inb)
          (.remote (Dev.tc n : Thread nD τ) (sliceOf 128 (Memref.whole cc0_scratch6) o inb) (.dma sS) hsc) (.dma sem) hsrc hdst hsem) k) Q) :=
  step_send m K c n yn hn q₁ q₂ h₁ h₂ hs₁ hs₂ (src := sliceOf 128 (Memref.whole cc0_scratch4) o inb) (dst := sliceOf 128 (Memref.whole cc0_scratch6) o inb)
    (sentQ m (yn (yn c))) ((View.set_slice_whole _ _).trans (rect_set _ rfl)) ((View.set_slice_whole _ _).trans (rect_set _ rfl)) rfl hA₁ hA₂
    ((read_slab (F := F) (View.whole cc0_scratch4) inb rfl (sentQ m c)).trans
      ((congrArg (slab 128 256 o) ((congrArg (sentQ m) (yn_yn c))).symm).trans (read_slab (F := F) (View.whole cc0_scratch6) inb rfl (sentQ m (yn (yn c)))).symm))
    (Entails.of_eq hpay₁.symm) (Entails.of_eq hpay₂.symm)

/-- A block of the own quarter is stored to the result. -/
theorem storeOwn {o : ℕ} {inb : InRows 128 256 o} (q : Fin 28) (hq : 0 < q.val) {off : Fin 2 → ℕ} {inb' : ∀ a, off a + (Mat 128).size a ≤ (Mat 1024).size a} {hr}
    {sem : DmaSem sig} {hsrc hdst hsem} (hs : sem = q) {p : ℕ} (hp : off = ![p, 0])
    (hout : slab 128 1024 p (result m c) = slab 128 256 o (ownQ m c)) (hN : Ref.dmaCredit main_v1 (Mat 128) .f32 = amt q.val)
    (hpay : dmaPay m c q.val = iprop(pts c main_v1 (rows 1024 p 128) fullShare (result m c) ∗ pts c cc0_scratch7 (rows 256 o 128) fullShare (ownQ m c))) :
    records m K ⊢ iprop(pts c cc0_scratch7 (rows 256 o 128) fullShare (ownQ m c) -∗ anyPts c main_v1 (rows 1024 p 128) -∗ idle c q
      -∗ (pend c q -∗ Runs c (k ⟨⟩) Q)
      -∗ Runs c (.op (.enqueueDma (sliceOf 128 (Memref.whole cc0_scratch7) o inb) (.here ((Memref.whole main_v1).slice (Rect.unit (s := Mat 1024) off (Mat 128).size inb') hr)) (.dma sem) hsrc hdst hsem) k) Q) :=
  step_copy m K c q hq (src := (sliceOf 128 (Memref.whole cc0_scratch7) o inb)) (dst := (Memref.whole main_v1).slice (Rect.unit (s := Mat 1024) off (Mat 128).size inb') hr)
    hs (fs := ownQ m c) (result m c) ((View.set_slice_whole _ _).trans (rect_set _ rfl)) ((View.set_slice_whole _ _).trans (rect_set _ hp)) hN
    ((read_slab (F := F) (View.whole cc0_scratch7) inb rfl (ownQ m c)).trans (hout.symm.trans (read_slab (F := F) (View.whole main_v1) inb' hp (result m c)).symm)) (Entails.of_eq hpay.symm)

/-- A block of the diagonal quarter is stored to the result. -/
theorem storeDiag {o : ℕ} {inb : InRows 128 256 o} (q : Fin 28) (hq : 0 < q.val) {off : Fin 2 → ℕ} {inb' : ∀ a, off a + (Mat 128).size a ≤ (Mat 1024).size a} {hr}
    {sem : DmaSem sig} {hsrc hdst hsem} (hs : sem = q) {p : ℕ} (hp : off = ![p, 0])
    (hout : slab 128 1024 p (result m c) = slab 128 256 o (diagQ m c)) (hN : Ref.dmaCredit main_v1 (Mat 128) .f32 = amt q.val)
    (hpay : dmaPay m c q.val = iprop(pts c main_v1 (rows 1024 p 128) fullShare (result m c) ∗ pts c cc0_scratch8 (rows 256 o 128) fullShare (diagQ m c))) :
    records m K ⊢ iprop(pts c cc0_scratch8 (rows 256 o 128) fullShare (diagQ m c) -∗ anyPts c main_v1 (rows 1024 p 128) -∗ idle c q
      -∗ (pend c q -∗ Runs c (k ⟨⟩) Q)
      -∗ Runs c (.op (.enqueueDma (sliceOf 128 (Memref.whole cc0_scratch8) o inb) (.here ((Memref.whole main_v1).slice (Rect.unit (s := Mat 1024) off (Mat 128).size inb') hr)) (.dma sem) hsrc hdst hsem) k) Q) :=
  step_copy m K c q hq (src := (sliceOf 128 (Memref.whole cc0_scratch8) o inb)) (dst := (Memref.whole main_v1).slice (Rect.unit (s := Mat 1024) off (Mat 128).size inb') hr)
    hs (fs := diagQ m c) (result m c) ((View.set_slice_whole _ _).trans (rect_set _ rfl)) ((View.set_slice_whole _ _).trans (rect_set _ hp)) hN
    ((read_slab (F := F) (View.whole cc0_scratch8) inb rfl (diagQ m c)).trans (hout.symm.trans (read_slab (F := F) (View.whole main_v1) inb' hp (result m c)).symm)) (Entails.of_eq hpay.symm)

/-- The quarter of the other `x` is stored to the result. -/
theorem storeX (q : Fin 28) (hq : 0 < q.val) {off : Fin 2 → ℕ} {inb' : ∀ a, off a + (Mat 256).size a ≤ (Mat 1024).size a} {hr}
    {sem : DmaSem sig} {hsrc hdst hsem} (hs : sem = q) {p : ℕ} (hp : off = ![p, 0])
    (hout : slab 256 1024 p (result m c) = (xQ m c)) (hN : Ref.dmaCredit main_v1 (Mat 256) .f32 = amt q.val)
    (hpay : dmaPay m c q.val = iprop(pts c main_v1 (rows 1024 p 256) fullShare (result m c) ∗ pts c cc0_scratch9 (rows 256 0 256) fullShare (xQ m c))) :
    records m K ⊢ iprop(pts c cc0_scratch9 (rows 256 0 256) fullShare (xQ m c) -∗ anyPts c main_v1 (rows 1024 p 256) -∗ idle c q
      -∗ (pend c q -∗ Runs c (k ⟨⟩) Q)
      -∗ Runs c (.op (.enqueueDma (Memref.whole cc0_scratch9) (.here ((Memref.whole main_v1).slice (Rect.unit (s := Mat 1024) off (Mat 256).size inb') hr)) (.dma sem) hsrc hdst hsem) k) Q) :=
  step_copy m K c q hq (src := (Memref.whole cc0_scratch9)) (dst := (Memref.whole main_v1).slice (Rect.unit (s := Mat 1024) off (Mat 256).size inb') hr)
    hs (fs := xQ m c) (result m c) ((View.set_whole _).trans (rows_univ 256).symm) ((View.set_slice_whole _ _).trans (rect_set _ hp)) hN
    (hout.symm.trans (read_slab (F := F) (View.whole main_v1) inb' hp (result m c)).symm) (Entails.of_eq hpay.symm)

/-- The quarter of the other `y` is stored to the result. -/
theorem storeY (q : Fin 28) (hq : 0 < q.val) {off : Fin 2 → ℕ} {inb' : ∀ a, off a + (Mat 256).size a ≤ (Mat 1024).size a} {hr}
    {sem : DmaSem sig} {hsrc hdst hsem} (hs : sem = q) {p : ℕ} (hp : off = ![p, 0])
    (hout : slab 256 1024 p (result m c) = (yQ m c)) (hN : Ref.dmaCredit main_v1 (Mat 256) .f32 = amt q.val)
    (hpay : dmaPay m c q.val = iprop(pts c main_v1 (rows 1024 p 256) fullShare (result m c) ∗ pts c cc0_scratch10 (rows 256 0 256) fullShare (yQ m c))) :
    records m K ⊢ iprop(pts c cc0_scratch10 (rows 256 0 256) fullShare (yQ m c) -∗ anyPts c main_v1 (rows 1024 p 256) -∗ idle c q
      -∗ (pend c q -∗ Runs c (k ⟨⟩) Q)
      -∗ Runs c (.op (.enqueueDma (Memref.whole cc0_scratch10) (.here ((Memref.whole main_v1).slice (Rect.unit (s := Mat 1024) off (Mat 256).size inb') hr)) (.dma sem) hsrc hdst hsem) k) Q) :=
  step_copy m K c q hq (src := (Memref.whole cc0_scratch10)) (dst := (Memref.whole main_v1).slice (Rect.unit (s := Mat 1024) off (Mat 256).size inb') hr)
    hs (fs := yQ m c) (result m c) ((View.set_whole _).trans (rows_univ 256).symm) ((View.set_slice_whole _ _).trans (rect_set _ hp)) hN
    (hout.symm.trans (read_slab (F := F) (View.whole main_v1) inb' hp (result m c)).symm) (Entails.of_eq hpay.symm)

/-- A load of 128 rows of the pair's half. -/
theorem loadPeer {o : ℕ} {inb : InRows 128 512 o} {hl} {k : ((Mat 128).Idx → Elt F .f32) → Prog (TpuEff nD τ sig (Elt F) Λ₀ .tc) α} {a b : ℕ}
    (h₁ : a ≤ o) (h₂ : o + 128 ≤ a + b) :
    pts c cc0_scratch0 (rows 512 a b) fullShare (peerRows m c) ⊢ iprop((pts c cc0_scratch0 (rows 512 a b) fullShare (peerRows m c) -∗ Runs c (k (slab 128 512 o (peerRows m c))) Q)
      -∗ Runs c (.op (.load (Memref.whole cc0_scratch0) (rectOf 128 512 o inb).toLoadRect hl) k) Q) :=
  step_load c (b := Memref.whole cc0_scratch0) (r := rectOf 128 512 o inb) _
    (by rw [show ((Memref.whole cc0_scratch0).access (rectOf 128 512 o inb)).set = rows 512 o 128 from (View.set_slice_whole _ _).trans (rect_set _ rfl)]; exact rows_subset h₁ h₂)
    (read_slab (F := F) (View.whole cc0_scratch0) inb rfl (peerRows m c))

/-- A load of 128 rows of the own half. -/
theorem loadOwn {o : ℕ} {inb : InRows 128 512 o} {hl} {k : ((Mat 128).Idx → Elt F .f32) → Prog (TpuEff nD τ sig (Elt F) Λ₀ .tc) α} {a b : ℕ}
    (h₁ : a ≤ o) (h₂ : o + 128 ≤ a + b) :
    pts c cc0_scratch1 (rows 512 a b) fullShare (ownRows m c) ⊢ iprop((pts c cc0_scratch1 (rows 512 a b) fullShare (ownRows m c) -∗ Runs c (k (slab 128 512 o (ownRows m c))) Q)
      -∗ Runs c (.op (.load (Memref.whole cc0_scratch1) (rectOf 128 512 o inb).toLoadRect hl) k) Q) :=
  step_load c (b := Memref.whole cc0_scratch1) (r := rectOf 128 512 o inb) _
    (by rw [show ((Memref.whole cc0_scratch1).access (rectOf 128 512 o inb)).set = rows 512 o 128 from (View.set_slice_whole _ _).trans (rect_set _ rfl)]; exact rows_subset h₁ h₂)
    (read_slab (F := F) (View.whole cc0_scratch1) inb rfl (ownRows m c))

/-- A load of 128 rows of what has come across `z`. -/
theorem loadRecvZ {o : ℕ} {inb : InRows 128 512 o} {hl} {k : ((Mat 128).Idx → Elt F .bf16) → Prog (TpuEff nD τ sig (Elt F) Λ₀ .tc) α} {a b : ℕ}
    (h₁ : a ≤ o) (h₂ : o + 128 ≤ a + b) :
    pts c cc0_scratch3 (rows 512 a b) fullShare (recvZ m c) ⊢ iprop((pts c cc0_scratch3 (rows 512 a b) fullShare (recvZ m c) -∗ Runs c (k (slab 128 512 o (recvZ m c))) Q)
      -∗ Runs c (.op (.load (Memref.whole cc0_scratch3) (rectOf 128 512 o inb).toLoadRect hl) k) Q) :=
  step_load c (b := Memref.whole cc0_scratch3) (r := rectOf 128 512 o inb) _
    (by rw [show ((Memref.whole cc0_scratch3).access (rectOf 128 512 o inb)).set = rows 512 o 128 from (View.set_slice_whole _ _).trans (rect_set _ rfl)]; exact rows_subset h₁ h₂)
    (read_slab (F := F) (View.whole cc0_scratch3) inb rfl (recvZ m c))

/-- A load of 256 rows of the quarter of the other `x`. -/
theorem loadX {o : ℕ} {inb : InRows 256 256 o} {hl} {k : ((Mat 256).Idx → Elt F .bf16) → Prog (TpuEff nD τ sig (Elt F) Λ₀ .tc) α} {a b : ℕ}
    (h₁ : a ≤ o) (h₂ : o + 256 ≤ a + b) :
    pts c cc0_scratch5 (rows 256 a b) fullShare (sentQ m (xn c)) ⊢ iprop((pts c cc0_scratch5 (rows 256 a b) fullShare (sentQ m (xn c)) -∗ Runs c (k (slab 256 256 o (sentQ m (xn c)))) Q)
      -∗ Runs c (.op (.load (Memref.whole cc0_scratch5) (rectOf 256 256 o inb).toLoadRect hl) k) Q) :=
  step_load c (b := Memref.whole cc0_scratch5) (r := rectOf 256 256 o inb) _
    (by rw [show ((Memref.whole cc0_scratch5).access (rectOf 256 256 o inb)).set = rows 256 o 256 from (View.set_slice_whole _ _).trans (rect_set _ rfl)]; exact rows_subset h₁ h₂)
    (read_slab (F := F) (View.whole cc0_scratch5) inb rfl (sentQ m (xn c)))

/-- A load of 256 rows of the quarter of the other `y`. -/
theorem loadY {o : ℕ} {inb : InRows 256 256 o} {hl} {k : ((Mat 256).Idx → Elt F .bf16) → Prog (TpuEff nD τ sig (Elt F) Λ₀ .tc) α} {a b : ℕ}
    (h₁ : a ≤ o) (h₂ : o + 256 ≤ a + b) :
    pts c cc0_scratch6 (rows 256 a b) fullShare (sentQ m (yn c)) ⊢ iprop((pts c cc0_scratch6 (rows 256 a b) fullShare (sentQ m (yn c)) -∗ Runs c (k (slab 256 256 o (sentQ m (yn c)))) Q)
      -∗ Runs c (.op (.load (Memref.whole cc0_scratch6) (rectOf 256 256 o inb).toLoadRect hl) k) Q) :=
  step_load c (b := Memref.whole cc0_scratch6) (r := rectOf 256 256 o inb) _
    (by rw [show ((Memref.whole cc0_scratch6).access (rectOf 256 256 o inb)).set = rows 256 o 256 from (View.set_slice_whole _ _).trans (rect_set _ rfl)]; exact rows_subset h₁ h₂)
    (read_slab (F := F) (View.whole cc0_scratch6) inb rfl (sentQ m (yn c)))

/-- 128 rows of what is sent across `z` are written, after a load of them whose value is not used. -/
theorem putSentZ {o : ℕ} {inb : InRows 128 512 o} {hl hx hm} {w : (Mat 128).Idx → Elt F .bf16} (hw : w = slab 128 512 o (sentZ m c)) :
    anyPts c cc0_scratch2 (rows 512 o 128) ⊢ iprop((pts c cc0_scratch2 (rows 512 o 128) fullShare (sentZ m c) -∗ Runs c (k ⟨⟩) Q)
      -∗ Runs c (.op (.load (Memref.whole cc0_scratch2) (rectOf 128 512 o inb).toLoadRect hl) fun _ =>
          .op (.store (Memref.whole cc0_scratch2) (rectOf 128 512 o inb) w Finset.univ hx hm) k) Q) :=
  step_put c (b := Memref.whole cc0_scratch2) (r := rectOf 128 512 o inb) (sentZ m c) ((View.set_slice_whole _ _).trans (rect_set _ rfl))
    (hw.trans (read_slab (F := F) (View.whole cc0_scratch2) inb rfl (sentZ m c)).symm)

/-- 128 rows of the narrowed own quarter are written, after a load of them whose value is not used. -/
theorem putSentQ {o : ℕ} {inb : InRows 128 256 o} {hl hx hm} {w : (Mat 128).Idx → Elt F .bf16} (hw : w = slab 128 256 o (sentQ m c)) :
    anyPts c cc0_scratch4 (rows 256 o 128) ⊢ iprop((pts c cc0_scratch4 (rows 256 o 128) fullShare (sentQ m c) -∗ Runs c (k ⟨⟩) Q)
      -∗ Runs c (.op (.load (Memref.whole cc0_scratch4) (rectOf 128 256 o inb).toLoadRect hl) fun _ =>
          .op (.store (Memref.whole cc0_scratch4) (rectOf 128 256 o inb) w Finset.univ hx hm) k) Q) :=
  step_put c (b := Memref.whole cc0_scratch4) (r := rectOf 128 256 o inb) (sentQ m c) ((View.set_slice_whole _ _).trans (rect_set _ rfl))
    (hw.trans (read_slab (F := F) (View.whole cc0_scratch4) inb rfl (sentQ m c)).symm)

/-- 128 rows of the own quarter are written, after a load of them whose value is not used. -/
theorem putOwn {o : ℕ} {inb : InRows 128 256 o} {hl hx hm} {w : (Mat 128).Idx → Elt F .f32} (hw : w = slab 128 256 o (ownQ m c)) :
    anyPts c cc0_scratch7 (rows 256 o 128) ⊢ iprop((pts c cc0_scratch7 (rows 256 o 128) fullShare (ownQ m c) -∗ Runs c (k ⟨⟩) Q)
      -∗ Runs c (.op (.load (Memref.whole cc0_scratch7) (rectOf 128 256 o inb).toLoadRect hl) fun _ =>
          .op (.store (Memref.whole cc0_scratch7) (rectOf 128 256 o inb) w Finset.univ hx hm) k) Q) :=
  step_put c (b := Memref.whole cc0_scratch7) (r := rectOf 128 256 o inb) (ownQ m c) ((View.set_slice_whole _ _).trans (rect_set _ rfl))
    (hw.trans (read_slab (F := F) (View.whole cc0_scratch7) inb rfl (ownQ m c)).symm)

/-- 128 rows of the diagonal quarter are written, after a load of them whose value is not used. -/
theorem putDiag {o : ℕ} {inb : InRows 128 256 o} {hl hx hm} {w : (Mat 128).Idx → Elt F .f32} (hw : w = slab 128 256 o (diagQ m c)) :
    anyPts c cc0_scratch8 (rows 256 o 128) ⊢ iprop((pts c cc0_scratch8 (rows 256 o 128) fullShare (diagQ m c) -∗ Runs c (k ⟨⟩) Q)
      -∗ Runs c (.op (.load (Memref.whole cc0_scratch8) (rectOf 128 256 o inb).toLoadRect hl) fun _ =>
          .op (.store (Memref.whole cc0_scratch8) (rectOf 128 256 o inb) w Finset.univ hx hm) k) Q) :=
  step_put c (b := Memref.whole cc0_scratch8) (r := rectOf 128 256 o inb) (diagQ m c) ((View.set_slice_whole _ _).trans (rect_set _ rfl))
    (hw.trans (read_slab (F := F) (View.whole cc0_scratch8) inb rfl (diagQ m c)).symm)

/-- 256 rows of the quarter of the other `x` are written, after a load of them whose value is not used. -/
theorem putX {o : ℕ} {inb : InRows 256 256 o} {hl hx hm} {w : (Mat 256).Idx → Elt F .f32} (hw : w = slab 256 256 o (xQ m c)) :
    anyPts c cc0_scratch9 (rows 256 o 256) ⊢ iprop((pts c cc0_scratch9 (rows 256 o 256) fullShare (xQ m c) -∗ Runs c (k ⟨⟩) Q)
      -∗ Runs c (.op (.load (Memref.whole cc0_scratch9) (rectOf 256 256 o inb).toLoadRect hl) fun _ =>
          .op (.store (Memref.whole cc0_scratch9) (rectOf 256 256 o inb) w Finset.univ hx hm) k) Q) :=
  step_put c (b := Memref.whole cc0_scratch9) (r := rectOf 256 256 o inb) (xQ m c) ((View.set_slice_whole _ _).trans (rect_set _ rfl))
    (hw.trans (read_slab (F := F) (View.whole cc0_scratch9) inb rfl (xQ m c)).symm)

/-- 256 rows of the quarter of the other `y` are written, after a load of them whose value is not used. -/
theorem putY {o : ℕ} {inb : InRows 256 256 o} {hl hx hm} {w : (Mat 256).Idx → Elt F .f32} (hw : w = slab 256 256 o (yQ m c)) :
    anyPts c cc0_scratch10 (rows 256 o 256) ⊢ iprop((pts c cc0_scratch10 (rows 256 o 256) fullShare (yQ m c) -∗ Runs c (k ⟨⟩) Q)
      -∗ Runs c (.op (.load (Memref.whole cc0_scratch10) (rectOf 256 256 o inb).toLoadRect hl) fun _ =>
          .op (.store (Memref.whole cc0_scratch10) (rectOf 256 256 o inb) w Finset.univ hx hm) k) Q) :=
  step_put c (b := Memref.whole cc0_scratch10) (r := rectOf 256 256 o inb) (yQ m c) ((View.set_slice_whole _ _).trans (rect_set _ rfl))
    (hw.trans (read_slab (F := F) (View.whole cc0_scratch10) inb rfl (yQ m c)).symm)

/-- The wait for a transfer, with what its round carries named. -/
theorem step_take (q : Fin 28) (hq : 0 < q.val) {sp sp' : Space} {s s' : Shape} {e e' : EltTy} {src : Memref sig .tc sp s e} {dst : Memref sig .tc sp' s' e'}
    {sem : DmaSem sig} {hsrc : src.view.WordExact} {hdst : dst.view.WordExact} (hs : sem = q) (hN : dst.view.dmaCredit = amt q.val)
    {P : sProp (MT nD τ sig Unit (Elt F) ℕ UU ℕ)} (hP : dmaPay m c q.val = P) {l : List Debt} (hl : ∀ e ∈ l, lvc q < lvc e.2.1) :
    records m K ⊢ iprop(pend c q -∗ owe c l -∗ ((owe c l ∗ closed c q ∗ P) -∗ Runs c (k ⟨⟩) Q)
      -∗ Runs c (.op (.waitDma2 sem src dst hsrc hdst) k) Q) := by
  subst hP
  exact step_wait m K c q hq hs hN hl

end Moves

/-! ## Ranges of rows split and joined -/

section Ranges

variable {c : Dev nD} {b : Ref sig .tc} {I J S : Finset (Idx ((c : Thread nD τ).loc b))} {q : PosShare TreeShare} {f : Buf (Elt F) ((c : Thread nD τ).loc b)}

theorem pts_split (hS : I ∪ J = S) (hd : Disjoint I J) : pts c b S q f ⊢ iprop(pts c b I q f ∗ pts c b J q f) := by
  subst hS; exact (pointsTo_union hd).1
theorem pts_join (hS : I ∪ J = S) (hd : Disjoint I J) : iprop(pts c b I q f ∗ pts c b J q f) ⊢ pts c b S q f := by
  subst hS; exact (pointsTo_union hd).2
theorem any_split (hS : I ∪ J = S) (hd : Disjoint I J) : anyPts (F := F) c b S ⊢ iprop(anyPts c b I ∗ anyPts c b J) := by
  iintro ⟨%f, H⟩
  ihave H := (pts_split hS hd) $$ H
  icases H with ⟨H1, H2⟩
  isplitl [H1]
  · iexists f; iexact H1
  · iexists f; iexact H2
theorem any_join (hS : I ∪ J = S) (hd : Disjoint I J) : iprop(anyPts (F := F) c b I ∗ anyPts c b J) ⊢ anyPts c b S := by
  subst hS
  iintro ⟨⟨%f, H1⟩, ⟨%g, H2⟩⟩
  iexists (J.piecewise g f)
  iapply (pointsTo_join hd)
  isplitl [H1]
  · iexact H1
  · iexact H2

end Ranges

end Cert.RowNorm
-- ==== Proof.PartsIn.lean ====
/-
# The first six pieces of the kernel

What each piece needs and what it leaves: the five fetches, the meeting with the three neighbours, the four blocks sent
across `z`, and the first block from across `z`.
-/
module

public import proofs.«01_k».proof.Proof.Moves

@[expose] public section

set_option maxRecDepth 16384

noncomputable section

namespace Cert.RowNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 28 → ℕ)

variable (c : Dev nD)

/-- The gain vector is staged; the first piece reads it. -/
theorem part1_runs {sh : PosShare TreeShare}
    {Q : (Σ' (d0 : Dev nD) (v2 : BitVec 32) (v5 : BitVec 32) (v8 : BitVec 32) (v9 : BitVec 32) (v10 : BitVec 32) (v11 : BitVec 32) (v13 : BitVec 32)
      (v14 : BitVec 32) (v17 : BitVec 32) (v20 : BitVec 32) (v21 : BitVec 32), FVec F S1024 .f32) → sProp 𝕄} :
    pts c cc0_stg0_0 Finset.univ sh (m ((c : Thread nD τ).loc main_arg1))
      ⊢ iprop((pts c cc0_stg0_0 Finset.univ sh (m ((c : Thread nD τ).loc main_arg1))
          -∗ ∀ v2 : BitVec 32, ∀ v5 : BitVec 32, ∀ v8 : BitVec 32, ∀ v9 : BitVec 32, ∀ v10 : BitVec 32, ∀ v11 : BitVec 32, ∀ v13 : BitVec 32, ∀ v14 : BitVec 32, ∀ v17 : BitVec 32, ∀ v20 : BitVec 32, ∀ v21 : BitVec 32, Q ⟨c, v2, v5, v8, v9, v10, v11, v13, v14, v17, v20, v21, gain m c⟩)
        -∗ Runs c part1 Q) := by
  unfold part1 onBufs
  rw [k0_part1_eq_skeleton]
  unfold k0_part1_skel
  simp only [Prog.lift, Prog.bind_op, Prog.bind_ret, Prog.pure_eq_ret, wp_deviceId]
  iintro H Hk
  iapply (step_load c (b := Memref.whole cc0_stg0_0) (r := Rect.unit (s := S1024) ![0] S1024.size inb_S1024_S1024_0) (S := Finset.univ) (sh := sh)
    (f := m ((c : Thread nD τ).loc main_arg1)) (m ((c : Thread nD τ).loc main_arg1)) (Finset.subset_univ _)
    (by
      refine funext fun x => congrArg (m ((c : Thread nD τ).loc main_arg1)) (funext fun a => Fin.ext ?_)
      match a with
      | ⟨0, _⟩ => show 0 + 1 * (x 0).val = (x 0).val; omega)) $$ H
  iintro H
  iapply (runs_ret c _)
  rw [← show gain m c = k0_pay1 (m ((c : Thread nD τ).loc main_arg1)) from rfl]
  iapply Hk $$ H

/-- Where a fetch begins. -/
theorem off1_row (r : ℕ) (hr : r < 128) : (512 * (c.val / 4) + 256 * (c.val / 2 % 2) + 1024) - 1024 * (c.val % 2) + r = 1024 * (1 - c.val % 2) + fetchRow c (0 + r) := by
  have := c.isLt; unfold fetchRow own; rw [if_pos (by omega)]; change c.val < 8 at this; omega
theorem off2_row (r : ℕ) (hr : r < 128) : (512 * (c.val / 4) + 256 * (c.val / 2 % 2) + 1152) - 1024 * (c.val % 2) + r = 1024 * (1 - c.val % 2) + fetchRow c (128 + r) := by
  have := c.isLt; unfold fetchRow own; rw [if_pos (by omega)]; change c.val < 8 at this; omega
theorem off3_row (r : ℕ) (hr : r < 256) : 1792 - (1024 * (c.val % 2) + 512 * (c.val / 4) + 256 * (c.val / 2 % 2)) + r = 1024 * (1 - c.val % 2) + fetchRow c (256 + r) := by
  have := c.isLt; unfold fetchRow diag own; rw [if_neg (by omega)]; change c.val < 8 at this; omega
theorem off4_row (r : ℕ) (hr : r < 256) : 1024 * (c.val % 2) + 512 * (c.val / 4) + 256 * (c.val / 2 % 2) + r = 1024 * (c.val % 2) + fetchRow c (0 + r) := by
  have := c.isLt; unfold fetchRow own; rw [if_pos (by omega)]; change c.val < 8 at this; omega
theorem off5_row (r : ℕ) (hr : r < 256) : (1024 * (c.val % 2) + 768) - (512 * (c.val / 4) + 256 * (c.val / 2 % 2)) + r = 1024 * (c.val % 2) + fetchRow c (256 + r) := by
  have := c.isLt; unfold fetchRow diag own; rw [if_neg (by omega)]; change c.val < 8 at this; omega

/-- The five fetches are issued. -/
theorem part2_runs (v14 v21 : BitVec 32) {s1 s2 s3 s4 s5 : PosShare TreeShare} {Q : _ → sProp 𝕄} :
    records m K ⊢ iprop((pts c main_arg0 Finset.univ s1 (part m c) ∗ pts c main_arg0 Finset.univ s2 (part m c) ∗ pts c main_arg0 Finset.univ s3 (part m c)
        ∗ pts c main_arg0 Finset.univ s4 (part m c) ∗ pts c main_arg0 Finset.univ s5 (part m c))
      -∗ (anyPts c cc0_scratch0 (rows 512 0 128) ∗ anyPts c cc0_scratch0 (rows 512 128 128) ∗ anyPts c cc0_scratch0 (rows 512 256 256)
        ∗ anyPts c cc0_scratch1 (rows 512 0 256) ∗ anyPts c cc0_scratch1 (rows 512 256 256))
      -∗ (idle c 1 ∗ idle c 2 ∗ idle c 3 ∗ idle c 4 ∗ idle c 5)
      -∗ ((pend c 1 ∗ pend c 2 ∗ pend c 3 ∗ pend c 4 ∗ pend c 5) -∗ Q (SemArray.scalar (sig.barrier 0 rfl)))
      -∗ Runs c (part2 c v14 v21) Q) := by
  unfold part2 onBufs
  rw [k0_part2_eq_skeleton]
  unfold k0_part2_skel
  simp only [Prog.lift, Prog.bind_op, Prog.bind_ret, Prog.pure_eq_ret]
  iintro #HR ⟨Ha1, Ha2, Ha3, Ha4, Ha5⟩ ⟨Hd1, Hd2, Hd3, Hd4, Hd5⟩ ⟨Hi1, Hi2, Hi3, Hi4, Hi5⟩ Hk
  iapply (fetchPeer m K c 128 1 (by decide) squeezes_S1x128x1024_S128x1024 rfl (k0_off1_eq c) (off1_row c) s1 rfl rfl) $$ HR Ha1 Hd1 Hi1
  iintro Hp1
  iapply (fetchPeer m K c 128 2 (by decide) squeezes_S1x128x1024_S128x1024 rfl (k0_off2_eq c) (off2_row c) s2 rfl rfl) $$ HR Ha2 Hd2 Hi2
  iintro Hp2
  iapply (fetchPeer m K c 256 3 (by decide) squeezes_S1x256x1024_S256x1024 rfl (k0_off3_eq c) (off3_row c) s3 rfl rfl) $$ HR Ha3 Hd3 Hi3
  iintro Hp3
  iapply (fetchOwn m K c 256 4 (by decide) squeezes_S1x256x1024_S256x1024 rfl (k0_off4_eq c) (off4_row c) s4 rfl rfl) $$ HR Ha4 Hd4 Hi4
  iintro Hp4
  iapply (fetchOwn m K c 256 5 (by decide) squeezes_S1x256x1024_S256x1024 rfl (k0_off5_eq c) (off5_row c) s5 rfl rfl) $$ HR Ha5 Hd5 Hi5
  iintro Hp5
  iapply (runs_ret c _)
  iapply Hk
  isplitl [Hp1]; · iexact Hp1
  isplitl [Hp2]; · iexact Hp2
  isplitl [Hp3]; · iexact Hp3
  isplitl [Hp4]; · iexact Hp4
  iexact Hp5

theorem barPay_z : barPay (F := F) (zp c) 0 = anyPts c cc0_scratch3 Finset.univ := by unfold barPay; rw [zp_zp]
theorem barPay_x : barPay (F := F) (xn c) 1 = anyPts c cc0_scratch5 Finset.univ := by unfold barPay; rw [xn_xn]
theorem barPay_y : barPay (F := F) (yn c) 2 = anyPts c cc0_scratch6 Finset.univ := by unfold barPay; rw [yn_yn]

/-- The meeting with the neighbours, and the first block to send. -/
theorem part3_runs (v2 v5 v8 v9 v10 v11 : BitVec 32) {Q : _ → sProp 𝕄} :
    records m K ⊢ iprop((owe c debts0 ∗ dutyTok ER (kcell (zp c, 0)) 0 (0 : Du) ∗ dutyTok ER (kcell (xn c, 0)) 0 (1 : Du) ∗ dutyTok ER (kcell (yn c, 0)) 0 (2 : Du))
      -∗ (anyPts c cc0_scratch3 Finset.univ ∗ anyPts c cc0_scratch5 Finset.univ ∗ anyPts c cc0_scratch6 Finset.univ)
      -∗ (pend c 0 ∗ pend c 1 ∗ anyPts c cc0_scratch2 (rows 512 0 128))
      -∗ ((owe c debts3 ∗ (anyPts (zp c) cc0_scratch3 Finset.univ ∗ anyPts (xn c) cc0_scratch5 Finset.univ ∗ anyPts (yn c) cc0_scratch6 Finset.univ)
          ∗ closed c 0 ∗ closed c 1 ∗ pts c cc0_scratch0 (rows 512 0 128) fullShare (peerRows m c)
          ∗ pts c cc0_scratch2 (rows 512 0 128) fullShare (sentZ m c)) -∗ Q ⟨⟩)
      -∗ Runs c (part3 c v2 v5 v8 v9 v10 v11 (SemArray.scalar (sig.barrier 0 rfl))) Q) := by
  unfold part3 onBufs
  rw [k0_part3_eq_skeleton]
  unfold k0_part3_skel
  simp only [semSignalWord, semWaitWord, Prog.lift, Prog.bind_op, Prog.bind_ret, Prog.pure_eq_ret]
  iintro #HR ⟨Ho, Ht1, Ht2, Ht3⟩ ⟨Hz, Hx, Hy⟩ ⟨Hb, Hp, Hs⟩ Hk
  ihave Hz := (Entails.of_eq (barPay_z c).symm) $$ Hz
  ihave Hx := (Entails.of_eq (barPay_x c).symm) $$ Hx
  ihave Hy := (Entails.of_eq (barPay_y c).symm) $$ Hy
  iapply (step_signal m K c _ zp (dev1_eq c) 0 rfl) $$ HR Ho Ht1 Hz
  iintro Ho
  iapply (step_signal m K c _ xn (dev2_eq c) 1 rfl) $$ HR Ho Ht2 Hx
  iintro Ho
  iapply (step_signal m K c _ yn (dev3_eq c) 2 rfl) $$ HR Ho Ht3 Hy
  iintro Ho
  iapply (step_barrier m K c rfl (by decide)) $$ HR Hb Ho
  iintro ⟨Ho, Hc0, Hz, Hx, Hy⟩
  iapply (step_take m K c 1 (by decide) rfl rfl (P := pts c cc0_scratch0 (rows 512 0 128) fullShare (peerRows m c)) rfl (by decide)) $$ HR Hp Ho
  iintro ⟨Ho, Hc1, Hf⟩
  iapply (loadPeer m c (a := 0) (b := 128) (by decide) (by decide)) $$ Hf
  iintro Hf
  iapply (putSentZ m c (blk_sentZ m c 0 (by decide)).symm) $$ Hs
  iintro Hs
  iapply (runs_ret c _)
  iapply Hk
  isplitl [Ho]; · iexact Ho
  isplitl [Hz Hx Hy]
  · isplitl [Hz]; · iapply (Entails.of_eq (show barPay (F := F) c 0 = anyPts (zp c) cc0_scratch3 Finset.univ from rfl)) $$ Hz
    isplitl [Hx]; · iapply (Entails.of_eq (show barPay (F := F) c 1 = anyPts (xn c) cc0_scratch5 Finset.univ from rfl)) $$ Hx
    iapply (Entails.of_eq (show barPay (F := F) c 2 = anyPts (yn c) cc0_scratch6 Finset.univ from rfl)) $$ Hy
  isplitl [Hc0]; · iexact Hc0
  isplitl [Hc1]; · iexact Hc1
  isplitl [Hf]; · iexact Hf
  iexact Hs

/-- The first block goes across `z`; the second is fetched and narrowed. -/
theorem part4_runs (v2 v5 v9 : BitVec 32) {Q : _ → sProp 𝕄} :
    records m K ⊢ iprop(owe c debts3 -∗ (pts c cc0_scratch2 (rows 512 0 128) fullShare (sentZ m c) ∗ anyPts (zp c) cc0_scratch3 (rows 512 0 128)
        ∗ idle c 12 ∗ dutyTok ER (kcell (zp c, 16)) 0 (0 : Du))
      -∗ (pend c 2 ∗ anyPts c cc0_scratch2 (rows 512 128 128))
      -∗ ((owe c debts4 ∗ pend c 12 ∗ closed c 2 ∗ pts c cc0_scratch0 (rows 512 128 128) fullShare (peerRows m c)
          ∗ pts c cc0_scratch2 (rows 512 128 128) fullShare (sentZ m c)) -∗ Q ⟨⟩)
      -∗ Runs c (part4 c v2 v5 v9) Q) := by
  unfold part4 onBufs
  rw [k0_part4_eq_skeleton]
  unfold k0_part4_skel
  simp only [Prog.lift, Prog.bind_op, Prog.bind_ret, Prog.pure_eq_ret]
  iintro #HR Ho ⟨Hs, Hd, Hi, Ht⟩ ⟨Hp, Ha⟩ Hk
  iapply (sendZ m K c _ (dev4_eq c) 12 16 (by decide) (by decide) rfl rfl rfl rfl rfl rfl) $$ HR Hs Hd Ho Hi Ht
  iintro ⟨Ho, Hp1⟩
  iapply (step_take m K c 2 (by decide) rfl rfl (P := pts c cc0_scratch0 (rows 512 128 128) fullShare (peerRows m c)) rfl (by decide)) $$ HR Hp Ho
  iintro ⟨Ho, Hc, Hf⟩
  iapply (loadPeer m c (a := 128) (b := 128) (by decide) (by decide)) $$ Hf
  iintro Hf
  iapply (putSentZ m c (blk_sentZ m c 1 (by decide)).symm) $$ Ha
  iintro Ha
  iapply (runs_ret c _)
  iapply Hk
  isplitl [Ho]; · iexact Ho
  isplitl [Hp1]; · iexact Hp1
  isplitl [Hc]; · iexact Hc
  isplitl [Hf]; · iexact Hf
  iexact Ha

/-- The second and third blocks go across `z`; the fourth is fetched and narrowed. -/
theorem part5_runs (v2 v5 v9 : BitVec 32) {Q : _ → sProp 𝕄} :
    records m K ⊢ iprop(owe c debts4 -∗ (pts c cc0_scratch2 (rows 512 128 128) fullShare (sentZ m c) ∗ anyPts (zp c) cc0_scratch3 (rows 512 128 128)
        ∗ idle c 13 ∗ dutyTok ER (kcell (zp c, 17)) 0 (0 : Du))
      -∗ (anyPts (zp c) cc0_scratch3 (rows 512 256 128) ∗ idle c 14 ∗ dutyTok ER (kcell (zp c, 18)) 0 (0 : Du))
      -∗ (pend c 3 ∗ anyPts c cc0_scratch2 (rows 512 256 128) ∗ anyPts c cc0_scratch2 (rows 512 384 128))
      -∗ ((owe c debts6 ∗ pend c 13 ∗ pend c 14 ∗ closed c 3 ∗ pts c cc0_scratch0 (rows 512 256 256) fullShare (peerRows m c)
          ∗ pts c cc0_scratch2 (rows 512 384 128) fullShare (sentZ m c)) -∗ Q ⟨⟩)
      -∗ Runs c (part5 c v2 v5 v9) Q) := by
  unfold part5 onBufs
  rw [k0_part5_eq_skeleton]
  unfold k0_part5_skel
  simp only [Prog.lift, Prog.bind_op, Prog.bind_ret, Prog.pure_eq_ret]
  iintro #HR Ho ⟨Hs, Hd, Hi, Ht⟩ ⟨Hd', Hi', Ht'⟩ ⟨Hp, Ha, Hb⟩ Hk
  iapply (sendZ m K c _ (dev5_eq c) 13 17 (by decide) (by decide) rfl rfl rfl rfl rfl rfl) $$ HR Hs Hd Ho Hi Ht
  iintro ⟨Ho, Hp1⟩
  iapply (step_take m K c 3 (by decide) rfl rfl (P := pts c cc0_scratch0 (rows 512 256 256) fullShare (peerRows m c)) rfl (by decide)) $$ HR Hp Ho
  iintro ⟨Ho, Hc, Hf⟩
  iapply (loadPeer m c (a := 256) (b := 256) (by decide) (by decide)) $$ Hf
  iintro Hf
  iapply (putSentZ m c (blk_sentZ m c 2 (by decide)).symm) $$ Ha
  iintro Ha
  iapply (sendZ m K c _ (dev6_eq c) 14 18 (by decide) (by decide) rfl rfl rfl rfl rfl rfl) $$ HR Ha Hd' Ho Hi' Ht'
  iintro ⟨Ho, Hp2⟩
  iapply (loadPeer m c (a := 256) (b := 256) (by decide) (by decide)) $$ Hf
  iintro Hf
  iapply (putSentZ m c (blk_sentZ m c 3 (by decide)).symm) $$ Hb
  iintro Hb
  iapply (runs_ret c _)
  iapply Hk
  isplitl [Ho]; · iexact Ho
  isplitl [Hp1]; · iexact Hp1
  isplitl [Hp2]; · iexact Hp2
  isplitl [Hc]; · iexact Hc
  isplitl [Hf]; · iexact Hf
  iexact Hb

/-- The fourth block goes across `z`; the first block of the own half is read once the pair's has come. -/
theorem part6_runs (v2 v5 v9 : BitVec 32) {Q : _ → sProp 𝕄} :
    records m K ⊢ iprop(owe c debts6 -∗ (pts c cc0_scratch2 (rows 512 384 128) fullShare (sentZ m c) ∗ anyPts (zp c) cc0_scratch3 (rows 512 384 128)
        ∗ idle c 15 ∗ dutyTok ER (kcell (zp c, 19)) 0 (0 : Du))
      -∗ (pend c 4 ∗ pend c 16)
      -∗ ((owe c debts7 ∗ pend c 15 ∗ closed c 4 ∗ closed c 16 ∗ pts c cc0_scratch1 (rows 512 0 256) fullShare (ownRows m c)
          ∗ pts c cc0_scratch3 (rows 512 0 128) fullShare (recvZ m c)) -∗ Q (blk 512 0 (ownRows m c)))
      -∗ Runs c (part6 c v2 v5 v9) Q) := by
  unfold part6 onBufs
  rw [k0_part6_eq_skeleton]
  unfold k0_part6_skel
  simp only [Prog.lift, Prog.bind_op, Prog.bind_ret, Prog.pure_eq_ret]
  iintro #HR Ho ⟨Hs, Hd, Hi, Ht⟩ ⟨Hp, Hq⟩ Hk
  iapply (sendZ m K c _ (dev7_eq c) 15 19 (by decide) (by decide) rfl rfl rfl rfl rfl rfl) $$ HR Hs Hd Ho Hi Ht
  iintro ⟨Ho, Hp1⟩
  iapply (step_take m K c 4 (by decide) rfl rfl (P := pts c cc0_scratch1 (rows 512 0 256) fullShare (ownRows m c)) rfl (by decide)) $$ HR Hp Ho
  iintro ⟨Ho, Hc, Hf⟩
  iapply (step_take m K c 16 (by decide) rfl rfl (P := pts c cc0_scratch3 (rows 512 0 128) fullShare (recvZ m c)) rfl (by decide)) $$ HR Hq Ho
  iintro ⟨Ho, Hc', Hg⟩
  iapply (loadOwn m c (a := 0) (b := 256) (by decide) (by decide)) $$ Hf
  iintro Hf
  iapply (runs_ret c _)
  iapply Hk
  isplitl [Ho]; · iexact Ho
  isplitl [Hp1]; · iexact Hp1
  isplitl [Hc]; · iexact Hc
  isplitl [Hc']; · iexact Hc'
  isplitl [Hf]; · iexact Hf
  iexact Hg

end Cert.RowNorm
-- ==== Proof.Places.lean ====
/-
# Where the finished rows go

The result holds each quarter of 256 rows at its place; the offsets of the stores are those places.
-/
module

public import proofs.«01_k».proof.Proof.Moves

@[expose] public section

set_option maxRecDepth 16384

noncomputable section

namespace Cert.RowNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 28 → ℕ)

/-- The whole of an array as its rows. -/
theorem slab_whole {β : Type} (R : ℕ) [NeZero R] (f : (Mat R).Idx → β) : slab R R 0 f = f := by
  refine funext fun x => congrArg f (funext fun a => Fin.ext ?_)
  have hx : (x 0).val < R := (x 0).isLt
  match a with
  | ⟨0, _⟩ => show (0 + (x 0).val) % R = (x 0).val; rw [Nat.zero_add, Nat.mod_eq_of_lt hx]
  | ⟨1, _⟩ => rfl

/-- Rows within quarter `a` of the result are rows of what that quarter holds. -/
theorem slab_result (c : Dev nD) {a : ℕ} (ha : a < 4) (n o : ℕ) (h : o + n ≤ 256) (g : (Mat 256).Idx → F .f32)
    (hg : ∀ i : (Mat 1024).Idx, (i 0).val / 256 = a → result m c i = g (at2 256 (i 0).val (i 1))) :
    slab n 1024 (256 * a + o) (result m c) = slab n 256 o g := by
  funext x
  have hx : (x 0).val < n := (x 0).isLt
  have e : ((at2 1024 (256 * a + o + (x 0).val) (x 1)) 0).val = 256 * a + o + (x 0).val := Nat.mod_eq_of_lt (by omega)
  show result m c (at2 1024 (256 * a + o + (x 0).val) (x 1)) = g (at2 256 (o + (x 0).val) (x 1))
  rw [hg _ (by rw [e]; omega), e]
  refine congrArg g (funext fun b => Fin.ext ?_)
  match b with
  | ⟨0, _⟩ => show (256 * a + o + (x 0).val) % 256 = (o + (x 0).val) % 256; omega
  | ⟨1, _⟩ => rfl

variable (c : Dev nD)

theorem own_xn : ∀ c : Dev nD, own (xn c) < 4 ∧ own (xn c) ≠ own c ∧ own (xn c) ≠ diag c ∧ 256 * own (xn c) = (256 * ((c.val / 2) % 2) + 512) - 512 * (c.val / 4) := by decide
theorem own_yn : ∀ c : Dev nD, own (yn c) < 4 ∧ own (yn c) ≠ own c ∧ own (yn c) ≠ diag c ∧ own (yn c) ≠ own (xn c)
    ∧ 256 * own (yn c) = (512 * (c.val / 4) + 256) - 256 * ((c.val / 2) % 2) := by decide
theorem diag_ne : ∀ c : Dev nD, diag c < 4 ∧ diag c ≠ own c := by decide

theorem result_own (o : ℕ) (h : o + 128 ≤ 256) : slab 128 1024 (256 * own c + o) (result m c) = slab 128 256 o (ownQ m c) :=
  slab_result m c (own_lt c) 128 o h _ fun i hi => by unfold result; rw [if_pos hi]
theorem result_diag (o : ℕ) (h : o + 128 ≤ 256) : slab 128 1024 (256 * diag c + o) (result m c) = slab 128 256 o (diagQ m c) :=
  slab_result m c (diag_ne c).1 128 o h _ fun i hi => by unfold result; rw [if_neg (hi ▸ (diag_ne c).2), if_pos hi]
theorem result_x : slab 256 1024 (256 * own (xn c)) (result m c) = xQ m c :=
  (slab_result m c (own_xn c).1 256 0 (by decide) (xQ m c) fun i hi => by
    unfold result; rw [if_neg (hi ▸ (own_xn c).2.1), if_neg (hi ▸ (own_xn c).2.2.1), if_pos hi]).trans (slab_whole 256 _)
theorem result_y : slab 256 1024 (256 * own (yn c)) (result m c) = yQ m c :=
  (slab_result m c (own_yn c).1 256 0 (by decide) (yQ m c) fun i hi => by
    unfold result; rw [if_neg (hi ▸ (own_yn c).2.1), if_neg (hi ▸ (own_yn c).2.2.1), if_neg (hi ▸ (own_yn c).2.2.2.1)]).trans (slab_whole 256 _)

/-! ## The offsets of the stores -/

theorem off_congr {p q : ℕ} {off : Fin 2 → ℕ} (h : off = ![p, 0]) (e : p = q) : off = ![q, 0] := e ▸ h

theorem off6_0 : k0_off6 c 0#32 = ![256 * own c, 0] := off_congr (k0_off6_eq c 0) (by unfold own; show _ + 128 * 0 = _; omega)
theorem off6_1 : k0_off6 c 128#32 = ![256 * own c + 128, 0] := off_congr (k0_off6_eq c 1) (by unfold own; show _ + 128 * 1 = _; omega)
theorem off7_0 : k0_off7 c 0#32 = ![256 * diag c, 0] := off_congr (k0_off7_eq c 0) (by
  have h : c.val < 8 := c.isLt
  unfold diag own; show 128 * 0 + 768 - _ = _; omega)
theorem off7_1 : k0_off7 c 128#32 = ![256 * diag c + 128, 0] := off_congr (k0_off7_eq c 1) (by
  have h : c.val < 8 := c.isLt
  unfold diag own; show 128 * 1 + 768 - _ = _; omega)
theorem off8 : k0_off8 c = ![256 * own (xn c), 0] := off_congr (k0_off8_eq c) (own_xn c).2.2.2.symm
theorem off9 : k0_off9 c = ![256 * own (yn c), 0] := off_congr (k0_off9_eq c) (own_yn c).2.2.2.2.symm

/-- A full share in two halves. -/
theorem halve {b : Ref sig .tc} {I : Finset (Idx ((c : Thread nD τ).loc b))} {f : Buf (Elt F) ((c : Thread nD τ).loc b)} :
    pts c b I fullShare f ⊢ iprop(pts c b I fullShare.left f ∗ pts c b I fullShare.right f) :=
  (pointsTo_share (PosShare.mem_left_op_right fullShare)).1
theorem unhalve {b : Ref sig .tc} {I : Finset (Idx ((c : Thread nD τ).loc b))} {f : Buf (Elt F) ((c : Thread nD τ).loc b)} :
    iprop(pts c b I fullShare.left f ∗ pts c b I fullShare.right f) ⊢ pts c b I fullShare f :=
  (pointsTo_share (PosShare.mem_left_op_right fullShare)).2

end Cert.RowNorm
-- ==== Proof.PartsOut.lean ====
/-
# The other pieces of the kernel

What each piece needs and what it leaves: the own quarter is finished, sent on and stored; so is the diagonal quarter; the
quarters of the other `x` and the other `y` come in and are stored; and everything is waited for.
-/
module

public import proofs.«01_k».proof.Proof.Places

@[expose] public section

set_option maxRecDepth 16384

noncomputable section

namespace Cert.RowNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 28 → ℕ)

variable (c : Dev nD)

/-- The first block is finished, and sent to the other `x`. -/
theorem part7_runs (v2 v5 v8 v10 : BitVec 32) {Q : _ → sProp 𝕄} :
    records m K ⊢ iprop(owe c debts7 -∗ (pts c cc0_scratch3 (rows 512 0 128) fullShare (recvZ m c) ∗ anyPts c cc0_scratch7 (rows 256 0 128)
        ∗ anyPts c cc0_scratch4 (rows 256 0 128))
      -∗ (anyPts (xn c) cc0_scratch5 (rows 256 0 128) ∗ idle c 20 ∗ dutyTok ER (kcell (xn c, 24)) 0 (0 : Du))
      -∗ (∀ r, (owe c debts8 ∗ pend c 20 ∗ pts c cc0_scratch3 (rows 512 0 128) fullShare (recvZ m c)
          ∗ pts c cc0_scratch7 (rows 256 0 128) fullShare (ownQ m c) ∗ pts c cc0_scratch4 (rows 256 0 128) fullShare.right (sentQ m c)) -∗ Q r)
      -∗ Runs c (part7 c v2 v5 v8 v10 (gain m c) (blk 512 0 (ownRows m c))) Q) := by
  unfold part7 onBufs
  rw [k0_part7_eq_skeleton]
  unfold k0_part7_skel
  simp only [Prog.lift, Prog.bind_op, Prog.bind_ret, Prog.pure_eq_ret]
  iintro #HR Ho ⟨Hz, Hq, Hb⟩ ⟨Hd, Hi, Ht⟩ Hk
  iapply (loadRecvZ m c (a := 0) (b := 128) (by decide) (by decide)) $$ Hz
  iintro Hz
  iapply (putOwn m c (blk_ownQ m c 0 (by decide)).symm) $$ Hq
  iintro Hq
  iapply (putSentQ m c (blk_sentQ m c 0 (by decide)).symm) $$ Hb
  iintro Hb
  ihave Hb := (halve c) $$ Hb
  icases Hb with ⟨Hl, Hr⟩
  iapply (sendX m K c _ (dev8_eq c) 20 24 (by decide) (by decide) rfl rfl rfl rfl rfl rfl) $$ HR Hl Hd Ho Hi Ht
  iintro ⟨Ho, Hp⟩
  iapply (runs_ret c _)
  iapply Hk
  isplitl [Ho]; · iexact Ho
  isplitl [Hp]; · iexact Hp
  isplitl [Hz]; · iexact Hz
  isplitl [Hq]; · iexact Hq
  iexact Hr

/-- The first block goes to the other `y` and to the result; the second block's rows are read. -/
theorem part8_runs (v2 v5 v8 v9 v11 v13 v215 w : BitVec 32) {Q : _ → sProp 𝕄} :
    records m K ⊢ iprop(owe c debts8 -∗ (pts c cc0_scratch4 (rows 256 0 128) fullShare.right (sentQ m c)
        ∗ anyPts (yn c) cc0_scratch6 (rows 256 0 128) ∗ idle c 22 ∗ dutyTok ER (kcell (yn c, 26)) 0 (0 : Du))
      -∗ (pts c cc0_scratch7 (rows 256 0 128) fullShare (ownQ m c) ∗ anyPts c main_v1 (rows 1024 (256 * own c) 128) ∗ idle c 6)
      -∗ (pend c 17 ∗ pts c cc0_scratch1 (rows 512 0 256) fullShare (ownRows m c))
      -∗ ((owe c debts9 ∗ pend c 22 ∗ pend c 6 ∗ closed c 17 ∗ pts c cc0_scratch1 (rows 512 0 256) fullShare (ownRows m c)
          ∗ pts c cc0_scratch3 (rows 512 128 128) fullShare (recvZ m c)) -∗ Q (k0_pay9 (blk 512 128 (ownRows m c)) (blk 512 128 (recvZ m c))))
      -∗ Runs c (part8 c v2 v5 v8 v9 v11 v13 v215 w) Q) := by
  unfold part8 onBufs
  rw [k0_part8_eq_skeleton]
  unfold k0_part8_skel
  simp only [Prog.lift, Prog.bind_op, Prog.bind_ret, Prog.pure_eq_ret]
  iintro #HR Ho ⟨Hr, Hd, Hi, Ht⟩ ⟨Hq, Hv, Hi'⟩ ⟨Hp, Hw⟩ Hk
  iapply (sendY m K c _ (dev9_eq c) 22 26 (by decide) (by decide) rfl rfl rfl rfl rfl rfl) $$ HR Hr Hd Ho Hi Ht
  iintro ⟨Ho, Hp1⟩
  iapply (storeOwn m K c 6 (by decide) rfl (off6_0 c) (result_own m c 0 (by decide)) rfl rfl) $$ HR Hq Hv Hi'
  iintro Hp2
  iapply (step_take m K c 17 (by decide) rfl rfl (P := pts c cc0_scratch3 (rows 512 128 128) fullShare (recvZ m c)) rfl (by decide)) $$ HR Hp Ho
  iintro ⟨Ho, Hc, Hz⟩
  iapply (loadOwn m c (a := 0) (b := 256) (by decide) (by decide)) $$ Hw
  iintro Hw
  iapply (loadRecvZ m c (a := 128) (b := 128) (by decide) (by decide)) $$ Hz
  iintro Hz
  iapply (runs_ret c _)
  iapply Hk
  isplitl [Ho]; · iexact Ho
  isplitl [Hp1]; · iexact Hp1
  isplitl [Hp2]; · iexact Hp2
  isplitl [Hc]; · iexact Hc
  isplitl [Hw]; · iexact Hw
  iexact Hz

/-- The second block is finished, and sent to the other `x`. -/
theorem part9_runs (v2 v5 v8 v10 v11 : BitVec 32) {Q : _ → sProp 𝕄} :
    records m K ⊢ iprop(owe c debts9 -∗ (anyPts c cc0_scratch7 (rows 256 128 128) ∗ anyPts c cc0_scratch4 (rows 256 128 128))
      -∗ (anyPts (xn c) cc0_scratch5 (rows 256 128 128) ∗ idle c 21 ∗ dutyTok ER (kcell (xn c, 25)) 0 (0 : Du))
      -∗ (∀ r, (owe c debts10 ∗ pend c 21 ∗ pts c cc0_scratch7 (rows 256 128 128) fullShare (ownQ m c)
          ∗ pts c cc0_scratch4 (rows 256 128 128) fullShare.right (sentQ m c)) -∗ Q r)
      -∗ Runs c (part9 c v2 v5 v8 v10 v11 (gain m c) (k0_pay9 (blk 512 128 (ownRows m c)) (blk 512 128 (recvZ m c)))) Q) := by
  unfold part9 onBufs
  rw [k0_part9_eq_skeleton]
  unfold k0_part9_skel
  simp only [Prog.lift, Prog.bind_op, Prog.bind_ret, Prog.pure_eq_ret]
  iintro #HR Ho ⟨Hq, Hb⟩ ⟨Hd, Hi, Ht⟩ Hk
  iapply (putOwn m c (blk_ownQ m c 1 (by decide)).symm) $$ Hq
  iintro Hq
  iapply (putSentQ m c (blk_sentQ m c 1 (by decide)).symm) $$ Hb
  iintro Hb
  ihave Hb := (halve c) $$ Hb
  icases Hb with ⟨Hl, Hr⟩
  iapply (sendX m K c _ (dev10_eq c) 21 25 (by decide) (by decide) rfl rfl rfl rfl rfl rfl) $$ HR Hl Hd Ho Hi Ht
  iintro ⟨Ho, Hp⟩
  iapply (runs_ret c _)
  iapply Hk
  isplitl [Ho]; · iexact Ho
  isplitl [Hp]; · iexact Hp
  isplitl [Hq]; · iexact Hq
  iexact Hr

/-- The second block goes to the other `y` and to the result; the third block's rows come in. -/
theorem part10_runs (v2 v5 v8 v9 v13 v280 v281 : BitVec 32) {Q : _ → sProp 𝕄} :
    records m K ⊢ iprop(owe c debts10 -∗ (pts c cc0_scratch4 (rows 256 128 128) fullShare.right (sentQ m c)
        ∗ anyPts (yn c) cc0_scratch6 (rows 256 128 128) ∗ idle c 23 ∗ dutyTok ER (kcell (yn c, 27)) 0 (0 : Du))
      -∗ (pts c cc0_scratch7 (rows 256 128 128) fullShare (ownQ m c) ∗ anyPts c main_v1 (rows 1024 (256 * own c + 128) 128) ∗ idle c 7)
      -∗ (pend c 5 ∗ pend c 18)
      -∗ ((owe c debts11 ∗ pend c 23 ∗ pend c 7 ∗ closed c 5 ∗ closed c 18 ∗ pts c cc0_scratch1 (rows 512 256 256) fullShare (ownRows m c)
          ∗ pts c cc0_scratch3 (rows 512 256 128) fullShare (recvZ m c)) -∗ Q ⟨⟩)
      -∗ Runs c (part10 c v2 v5 v8 v9 v13 v280 v281) Q) := by
  unfold part10 onBufs
  rw [k0_part10_eq_skeleton]
  unfold k0_part10_skel
  simp only [Prog.lift, Prog.bind_op, Prog.bind_ret, Prog.pure_eq_ret]
  iintro #HR Ho ⟨Hr, Hd, Hi, Ht⟩ ⟨Hq, Hv, Hi'⟩ ⟨Hp, Hp'⟩ Hk
  iapply (sendY m K c _ (dev11_eq c) 23 27 (by decide) (by decide) rfl rfl rfl rfl rfl rfl) $$ HR Hr Hd Ho Hi Ht
  iintro ⟨Ho, Hp1⟩
  iapply (storeOwn m K c 7 (by decide) rfl (off6_1 c) (result_own m c 128 (by decide)) rfl rfl) $$ HR Hq Hv Hi'
  iintro Hp2
  iapply (step_take m K c 5 (by decide) rfl rfl (P := pts c cc0_scratch1 (rows 512 256 256) fullShare (ownRows m c)) rfl (by decide)) $$ HR Hp Ho
  iintro ⟨Ho, Hc, Hw⟩
  iapply (step_take m K c 18 (by decide) rfl rfl (P := pts c cc0_scratch3 (rows 512 256 128) fullShare (recvZ m c)) rfl (by decide)) $$ HR Hp' Ho
  iintro ⟨Ho, Hc', Hz⟩
  iapply (runs_ret c _)
  iapply Hk
  isplitl [Ho]; · iexact Ho
  isplitl [Hp1]; · iexact Hp1
  isplitl [Hp2]; · iexact Hp2
  isplitl [Hc]; · iexact Hc
  isplitl [Hc']; · iexact Hc'
  isplitl [Hw]; · iexact Hw
  iexact Hz

/-- The third block is finished, and goes to the result. -/
theorem part11_runs (v2 v5 v9 v14 : BitVec 32) {Q : _ → sProp 𝕄} :
    records m K ⊢ iprop((pts c cc0_scratch1 (rows 512 256 256) fullShare (ownRows m c) ∗ pts c cc0_scratch3 (rows 512 256 128) fullShare (recvZ m c))
      -∗ (anyPts c cc0_scratch8 (rows 256 0 128) ∗ anyPts c main_v1 (rows 1024 (256 * diag c) 128) ∗ idle c 8)
      -∗ ((pend c 8 ∗ pts c cc0_scratch1 (rows 512 256 256) fullShare (ownRows m c) ∗ pts c cc0_scratch3 (rows 512 256 128) fullShare (recvZ m c)) -∗ Q ⟨⟩)
      -∗ Runs c (part11 c v2 v5 v9 v14 (gain m c)) Q) := by
  unfold part11 onBufs
  rw [k0_part11_eq_skeleton]
  unfold k0_part11_skel
  simp only [Prog.lift, Prog.bind_op, Prog.bind_ret, Prog.pure_eq_ret]
  iintro #HR ⟨Hw, Hz⟩ ⟨Hq, Hv, Hi⟩ Hk
  iapply (loadOwn m c (a := 256) (b := 256) (by decide) (by decide)) $$ Hw
  iintro Hw
  iapply (loadRecvZ m c (a := 256) (b := 128) (by decide) (by decide)) $$ Hz
  iintro Hz
  iapply (putDiag m c (blk_diagQ m c 0 (by decide)).symm) $$ Hq
  iintro Hq
  iapply (storeDiag m K c 8 (by decide) rfl (off7_0 c) (result_diag m c 0 (by decide)) rfl rfl) $$ HR Hq Hv Hi
  iintro Hp
  iapply (runs_ret c _)
  iapply Hk
  isplitl [Hp]; · iexact Hp
  isplitl [Hw]; · iexact Hw
  iexact Hz

/-- The fourth block is finished, and goes to the result. -/
theorem part12_runs (v5 v8 v10 v14 : BitVec 32) {Q : _ → sProp 𝕄} :
    records m K ⊢ iprop(owe c debts11 -∗ (pend c 19 ∗ pts c cc0_scratch1 (rows 512 256 256) fullShare (ownRows m c))
      -∗ (anyPts c cc0_scratch8 (rows 256 128 128) ∗ anyPts c main_v1 (rows 1024 (256 * diag c + 128) 128) ∗ idle c 9)
      -∗ ((owe c debts11 ∗ closed c 19 ∗ pend c 9 ∗ pts c cc0_scratch1 (rows 512 256 256) fullShare (ownRows m c)
          ∗ pts c cc0_scratch3 (rows 512 384 128) fullShare (recvZ m c)) -∗ Q ⟨⟩)
      -∗ Runs c (part12 c v5 v8 v10 v14 (gain m c)) Q) := by
  unfold part12 onBufs
  rw [k0_part12_eq_skeleton]
  unfold k0_part12_skel
  simp only [Prog.lift, Prog.bind_op, Prog.bind_ret, Prog.pure_eq_ret]
  iintro #HR Ho ⟨Hp, Hw⟩ ⟨Hq, Hv, Hi⟩ Hk
  iapply (step_take m K c 19 (by decide) rfl rfl (P := pts c cc0_scratch3 (rows 512 384 128) fullShare (recvZ m c)) rfl (by decide)) $$ HR Hp Ho
  iintro ⟨Ho, Hc, Hz⟩
  iapply (loadOwn m c (a := 256) (b := 256) (by decide) (by decide)) $$ Hw
  iintro Hw
  iapply (loadRecvZ m c (a := 384) (b := 128) (by decide) (by decide)) $$ Hz
  iintro Hz
  iapply (putDiag m c (blk_diagQ m c 1 (by decide)).symm) $$ Hq
  iintro Hq
  iapply (storeDiag m K c 9 (by decide) rfl (off7_1 c) (result_diag m c 128 (by decide)) rfl rfl) $$ HR Hq Hv Hi
  iintro Hp
  iapply (runs_ret c _)
  iapply Hk
  isplitl [Ho]; · iexact Ho
  isplitl [Hc]; · iexact Hc
  isplitl [Hp]; · iexact Hp
  isplitl [Hw]; · iexact Hw
  iexact Hz

/-- A received quarter widened is its rows widened. -/
theorem wide_x : k0_pay15 (slab 256 256 0 (sentQ m (xn c))) = slab 256 256 0 (xQ m c) := by rw [slab_whole, slab_whole]; rfl
theorem wide_y : k0_pay16 (slab 256 256 0 (sentQ m (yn c))) = slab 256 256 0 (yQ m c) := by rw [slab_whole, slab_whole]; rfl

/-- The quarter of the other `x` comes in, and goes to the result. -/
theorem part13_runs (v2 v5 v8 v10 v11 v17 : BitVec 32) {Q : _ → sProp 𝕄} :
    records m K ⊢ iprop(owe c debts11 -∗ (pend c 24 ∗ pend c 25)
      -∗ (anyPts c cc0_scratch9 (rows 256 0 256) ∗ anyPts c main_v1 (rows 1024 (256 * own (xn c)) 256) ∗ idle c 10)
      -∗ ((owe c debts11 ∗ closed c 24 ∗ closed c 25 ∗ pend c 10 ∗ pts c cc0_scratch5 (rows 256 0 256) fullShare (sentQ m (xn c))) -∗ Q ⟨⟩)
      -∗ Runs c (part13 c v2 v5 v8 v10 v11 v17) Q) := by
  unfold part13 onBufs
  rw [k0_part13_eq_skeleton]
  unfold k0_part13_skel
  simp only [Prog.lift, Prog.bind_op, Prog.bind_ret, Prog.pure_eq_ret]
  iintro #HR Ho ⟨Hp, Hp'⟩ ⟨Hq, Hv, Hi⟩ Hk
  iapply (step_take m K c 24 (by decide) rfl rfl (P := pts c cc0_scratch5 (rows 256 0 128) fullShare (sentQ m (xn c))) rfl (by decide)) $$ HR Hp Ho
  iintro ⟨Ho, Hc, Hx⟩
  iapply (step_take m K c 25 (by decide) rfl rfl (P := pts c cc0_scratch5 (rows 256 128 128) fullShare (sentQ m (xn c))) rfl (by decide)) $$ HR Hp' Ho
  iintro ⟨Ho, Hc', Hx'⟩
  ihave Hx := (pts_join (c := c) (b := cc0_scratch5) (rows_union (R := 256) (a := 0) (n := 128) (b := 128) (k := 128) rfl) (rows_disjoint (Nat.le_refl 128))) $$ [Hx Hx']
  · isplitl [Hx]; · iexact Hx
    iexact Hx'
  iapply (loadX m c (a := 0) (b := 256) (by decide) (by decide)) $$ Hx
  iintro Hx
  iapply (putX m c (wide_x m c)) $$ Hq
  iintro Hq
  iapply (storeX m K c 10 (by decide) rfl (off8 c) (result_x m c) rfl rfl) $$ HR Hq Hv Hi
  iintro Hp
  iapply (runs_ret c _)
  iapply Hk
  isplitl [Ho]; · iexact Ho
  isplitl [Hc]; · iexact Hc
  isplitl [Hc']; · iexact Hc'
  isplitl [Hp]; · iexact Hp
  iexact Hx

/-- The quarter of the other `y` comes in, and goes to the result; the first store is waited for. -/
theorem part14_runs (v2 v8 v11 v20 : BitVec 32) {Q : _ → sProp 𝕄} :
    records m K ⊢ iprop(owe c debts11 -∗ (pend c 26 ∗ pend c 27 ∗ pend c 6)
      -∗ (anyPts c cc0_scratch10 (rows 256 0 256) ∗ anyPts c main_v1 (rows 1024 (256 * own (yn c)) 256) ∗ idle c 11)
      -∗ ((owe c debts11 ∗ closed c 26 ∗ closed c 27 ∗ pend c 11 ∗ pts c cc0_scratch6 (rows 256 0 256) fullShare (sentQ m (yn c))
          ∗ closed c 6 ∗ dmaPay m c 6) -∗ Q ⟨⟩)
      -∗ Runs c (part14 c v2 v8 v11 v20) Q) := by
  unfold part14 onBufs
  rw [k0_part14_eq_skeleton]
  unfold k0_part14_skel
  simp only [Prog.lift, Prog.bind_op, Prog.bind_ret, Prog.pure_eq_ret]
  iintro #HR Ho ⟨Hp, Hp', Hp6⟩ ⟨Hq, Hv, Hi⟩ Hk
  iapply (step_take m K c 26 (by decide) rfl rfl (P := pts c cc0_scratch6 (rows 256 0 128) fullShare (sentQ m (yn c))) rfl (by decide)) $$ HR Hp Ho
  iintro ⟨Ho, Hc, Hx⟩
  iapply (step_take m K c 27 (by decide) rfl rfl (P := pts c cc0_scratch6 (rows 256 128 128) fullShare (sentQ m (yn c))) rfl (by decide)) $$ HR Hp' Ho
  iintro ⟨Ho, Hc', Hx'⟩
  ihave Hx := (pts_join (c := c) (b := cc0_scratch6) (rows_union (R := 256) (a := 0) (n := 128) (b := 128) (k := 128) rfl) (rows_disjoint (Nat.le_refl 128))) $$ [Hx Hx']
  · isplitl [Hx]; · iexact Hx
    iexact Hx'
  iapply (loadY m c (a := 0) (b := 256) (by decide) (by decide)) $$ Hx
  iintro Hx
  iapply (putY m c (wide_y m c)) $$ Hq
  iintro Hq
  iapply (storeY m K c 11 (by decide) rfl (off9 c) (result_y m c) rfl rfl) $$ HR Hq Hv Hi
  iintro Hp
  iapply (step_take m K c 6 (by decide) rfl rfl (P := dmaPay m c 6) rfl (by decide)) $$ HR Hp6 Ho
  iintro ⟨Ho, Hc6, H6⟩
  iapply (runs_ret c _)
  iapply Hk
  isplitl [Ho]; · iexact Ho
  isplitl [Hc]; · iexact Hc
  isplitl [Hc']; · iexact Hc'
  isplitl [Hp]; · iexact Hp
  isplitl [Hx]; · iexact Hx
  isplitl [Hc6]; · iexact Hc6
  iexact H6

/-- A transfer of the device that is waited for: the cell closed, and what the round carries. -/
def done (q : Fin 28) : sProp 𝕄 := iprop(closed c q ∗ dmaPay m c q.val)

/-- A wait whose round is put aside. -/
theorem step_done {α : Type} {Q : α → sProp (MT nD τ sig Unit (Elt F) ℕ UU ℕ)} {k : PUnit → Prog (TpuEff nD τ sig (Elt F) Λ₀ .tc) α}
    (q : Fin 28) (hq : 0 < q.val) {sp sp' : Space} {s s' : Shape} {e e' : EltTy} {src : Memref sig .tc sp s e} {dst : Memref sig .tc sp' s' e'}
    {sem : DmaSem sig} {hsrc : src.view.WordExact} {hdst : dst.view.WordExact} (hs : sem = q) (hN : dst.view.dmaCredit = amt q.val) :
    records m K ⊢ iprop(pend c q -∗ owe c debts11 -∗ ((owe c debts11 ∗ done m c q) -∗ Runs c (k ⟨⟩) Q)
      -∗ Runs c (.op (.waitDma2 sem src dst hsrc hdst) k) Q) :=
  step_wait m K c q hq hs hN (fun e he => absurd he (List.not_mem_nil))

/-- The other stores, and the first two blocks sent across `z`, are waited for. -/
theorem part15_runs {Q : _ → sProp 𝕄} :
    records m K ⊢ iprop(owe c debts11 -∗ (pend c 7 ∗ pend c 8 ∗ pend c 9 ∗ pend c 10 ∗ pend c 11 ∗ pend c 12 ∗ pend c 13)
      -∗ ((owe c debts11 ∗ done m c 7 ∗ done m c 8 ∗ done m c 9 ∗ done m c 10 ∗ done m c 11 ∗ done m c 12 ∗ done m c 13) -∗ Q ⟨⟩)
      -∗ Runs c (part15 c) Q) := by
  unfold part15 onBufs
  rw [k0_part15_eq_skeleton]
  unfold k0_part15_skel
  simp only [Prog.lift, Prog.bind_op, Prog.bind_ret, Prog.pure_eq_ret]
  iintro #HR Ho ⟨H7, H8, H9, H10, H11, H12, H13⟩ Hk
  iapply (step_done m K c 7 (by decide) rfl rfl) $$ HR H7 Ho
  iintro ⟨Ho, H7⟩
  iapply (step_done m K c 8 (by decide) rfl rfl) $$ HR H8 Ho
  iintro ⟨Ho, H8⟩
  iapply (step_done m K c 9 (by decide) rfl rfl) $$ HR H9 Ho
  iintro ⟨Ho, H9⟩
  iapply (step_done m K c 10 (by decide) rfl rfl) $$ HR H10 Ho
  iintro ⟨Ho, H10⟩
  iapply (step_done m K c 11 (by decide) rfl rfl) $$ HR H11 Ho
  iintro ⟨Ho, H11⟩
  iapply (step_done m K c 12 (by decide) rfl rfl) $$ HR H12 Ho
  iintro ⟨Ho, H12⟩
  iapply (step_done m K c 13 (by decide) rfl rfl) $$ HR H13 Ho
  iintro ⟨Ho, H13⟩
  iapply (runs_ret c _)
  iapply Hk
  isplitl [Ho]; · iexact Ho
  isplitl [H7]; · iexact H7
  isplitl [H8]; · iexact H8
  isplitl [H9]; · iexact H9
  isplitl [H10]; · iexact H10
  isplitl [H11]; · iexact H11
  isplitl [H12]; · iexact H12
  iexact H13

/-- The other blocks sent are waited for, but for the last. -/
theorem part16_runs {Q : _ → sProp 𝕄} :
    records m K ⊢ iprop(owe c debts11 -∗ (pend c 14 ∗ pend c 15 ∗ pend c 20 ∗ pend c 22 ∗ pend c 21)
      -∗ ((owe c debts11 ∗ done m c 14 ∗ done m c 15 ∗ done m c 20 ∗ done m c 22 ∗ done m c 21) -∗ Q ⟨⟩)
      -∗ Runs c part16 Q) := by
  unfold part16 onBufs
  rw [k0_part16_eq_skeleton]
  unfold k0_part16_skel
  simp only [Prog.lift, Prog.bind_op, Prog.bind_ret, Prog.pure_eq_ret]
  iintro #HR Ho ⟨H14, H15, H20, H22, H21⟩ Hk
  iapply (step_done m K c 14 (by decide) rfl rfl) $$ HR H14 Ho
  iintro ⟨Ho, H14⟩
  iapply (step_done m K c 15 (by decide) rfl rfl) $$ HR H15 Ho
  iintro ⟨Ho, H15⟩
  iapply (step_done m K c 20 (by decide) rfl rfl) $$ HR H20 Ho
  iintro ⟨Ho, H20⟩
  iapply (step_done m K c 22 (by decide) rfl rfl) $$ HR H22 Ho
  iintro ⟨Ho, H22⟩
  iapply (step_done m K c 21 (by decide) rfl rfl) $$ HR H21 Ho
  iintro ⟨Ho, H21⟩
  iapply (runs_ret c _)
  iapply Hk
  isplitl [Ho]; · iexact Ho
  isplitl [H14]; · iexact H14
  isplitl [H15]; · iexact H15
  isplitl [H20]; · iexact H20
  isplitl [H22]; · iexact H22
  iexact H21

end Cert.RowNorm
-- ==== Proof.Ranges.lean ====
/-
# The buffers in ranges of rows

Each buffer of the kernel is the rows its moves name; the result is six ranges, at the places of the four quarters.
-/
module

public import proofs.«01_k».proof.Proof.Places

@[expose] public section

set_option maxRecDepth 16384

noncomputable section

namespace Cert.RowNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 28 → ℕ)

section Cut

variable {c : Dev nD} {b : Ref sig .tc} (I : ℕ → ℕ → Finset (Idx ((c : Thread nD τ).loc b))) {q : PosShare TreeShare}

/-- Ranges of rows that join and share nothing. -/
structure Ranges : Prop where
  union : ∀ a n k, I a n ∪ I (a + n) k = I a (n + k)
  disjoint : ∀ a n k, Disjoint (I a n) (I (a + n) k)

variable {I}

theorem Ranges.any (h : Ranges I) (a n k : ℕ) : anyPts (F := F) c b (I a (n + k)) = iprop(anyPts c b (I a n) ∗ anyPts c b (I (a + n) k)) :=
  equiv_iff.mp ⟨any_split (h.union a n k) (h.disjoint a n k), any_join (h.union a n k) (h.disjoint a n k)⟩

theorem Ranges.any3 (h : Ranges I) (a n k l : ℕ) : anyPts (F := F) c b (I a (n + (k + l)))
    = iprop(anyPts c b (I a n) ∗ anyPts c b (I (a + n) k) ∗ anyPts c b (I (a + n + k) l)) := by
  rw [h.any a n (k + l), h.any (a + n) k l]

theorem Ranges.any4 (h : Ranges I) (a n k l p : ℕ) : anyPts (F := F) c b (I a (n + (k + (l + p))))
    = iprop(anyPts c b (I a n) ∗ anyPts c b (I (a + n) k) ∗ anyPts c b (I (a + n + k) l) ∗ anyPts c b (I (a + n + k + l) p)) := by
  rw [h.any a n (k + (l + p)), h.any3 (a + n) k l p]

end Cut

theorem ranges0 (c : Dev nD) : Ranges (c := c) (b := cc0_scratch0) (rows 512) := ⟨fun _ _ _ => rows_union rfl, fun _ _ _ => rows_disjoint (Nat.le_refl _)⟩
theorem ranges1 (c : Dev nD) : Ranges (c := c) (b := cc0_scratch1) (rows 512) := ⟨fun _ _ _ => rows_union rfl, fun _ _ _ => rows_disjoint (Nat.le_refl _)⟩
theorem ranges2 (c : Dev nD) : Ranges (c := c) (b := cc0_scratch2) (rows 512) := ⟨fun _ _ _ => rows_union rfl, fun _ _ _ => rows_disjoint (Nat.le_refl _)⟩
theorem ranges3 (c : Dev nD) : Ranges (c := c) (b := cc0_scratch3) (rows 512) := ⟨fun _ _ _ => rows_union rfl, fun _ _ _ => rows_disjoint (Nat.le_refl _)⟩
theorem ranges4 (c : Dev nD) : Ranges (c := c) (b := cc0_scratch4) (rows 256) := ⟨fun _ _ _ => rows_union rfl, fun _ _ _ => rows_disjoint (Nat.le_refl _)⟩
theorem ranges5 (c : Dev nD) : Ranges (c := c) (b := cc0_scratch5) (rows 256) := ⟨fun _ _ _ => rows_union rfl, fun _ _ _ => rows_disjoint (Nat.le_refl _)⟩
theorem ranges6 (c : Dev nD) : Ranges (c := c) (b := cc0_scratch6) (rows 256) := ⟨fun _ _ _ => rows_union rfl, fun _ _ _ => rows_disjoint (Nat.le_refl _)⟩
theorem ranges7 (c : Dev nD) : Ranges (c := c) (b := cc0_scratch7) (rows 256) := ⟨fun _ _ _ => rows_union rfl, fun _ _ _ => rows_disjoint (Nat.le_refl _)⟩
theorem ranges8 (c : Dev nD) : Ranges (c := c) (b := cc0_scratch8) (rows 256) := ⟨fun _ _ _ => rows_union rfl, fun _ _ _ => rows_disjoint (Nat.le_refl _)⟩

section Buffers

variable (c : Dev nD)

theorem cut0 : anyPts (F := F) c cc0_scratch0 Finset.univ
    = iprop(anyPts c cc0_scratch0 (rows 512 0 128) ∗ anyPts c cc0_scratch0 (rows 512 128 128) ∗ anyPts c cc0_scratch0 (rows 512 256 256)) :=
  (congrArg (anyPts c cc0_scratch0) (rows_univ 512).symm).trans ((ranges0 c).any3 0 128 128 256)
theorem cut1 : anyPts (F := F) c cc0_scratch1 Finset.univ = iprop(anyPts c cc0_scratch1 (rows 512 0 256) ∗ anyPts c cc0_scratch1 (rows 512 256 256)) :=
  (congrArg (anyPts c cc0_scratch1) (rows_univ 512).symm).trans ((ranges1 c).any 0 256 256)
theorem cut2 : anyPts (F := F) c cc0_scratch2 Finset.univ
    = iprop(anyPts c cc0_scratch2 (rows 512 0 128) ∗ anyPts c cc0_scratch2 (rows 512 128 128) ∗ anyPts c cc0_scratch2 (rows 512 256 128)
      ∗ anyPts c cc0_scratch2 (rows 512 384 128)) :=
  (congrArg (anyPts c cc0_scratch2) (rows_univ 512).symm).trans ((ranges2 c).any4 0 128 128 128 128)
theorem cut3 : anyPts (F := F) c cc0_scratch3 Finset.univ
    = iprop(anyPts c cc0_scratch3 (rows 512 0 128) ∗ anyPts c cc0_scratch3 (rows 512 128 128) ∗ anyPts c cc0_scratch3 (rows 512 256 128)
      ∗ anyPts c cc0_scratch3 (rows 512 384 128)) :=
  (congrArg (anyPts c cc0_scratch3) (rows_univ 512).symm).trans ((ranges3 c).any4 0 128 128 128 128)
theorem cut4 : anyPts (F := F) c cc0_scratch4 Finset.univ = iprop(anyPts c cc0_scratch4 (rows 256 0 128) ∗ anyPts c cc0_scratch4 (rows 256 128 128)) :=
  (congrArg (anyPts c cc0_scratch4) (rows_univ 256).symm).trans ((ranges4 c).any 0 128 128)
theorem cut5 : anyPts (F := F) c cc0_scratch5 Finset.univ = iprop(anyPts c cc0_scratch5 (rows 256 0 128) ∗ anyPts c cc0_scratch5 (rows 256 128 128)) :=
  (congrArg (anyPts c cc0_scratch5) (rows_univ 256).symm).trans ((ranges5 c).any 0 128 128)
theorem cut6 : anyPts (F := F) c cc0_scratch6 Finset.univ = iprop(anyPts c cc0_scratch6 (rows 256 0 128) ∗ anyPts c cc0_scratch6 (rows 256 128 128)) :=
  (congrArg (anyPts c cc0_scratch6) (rows_univ 256).symm).trans ((ranges6 c).any 0 128 128)
theorem cut7 : anyPts (F := F) c cc0_scratch7 Finset.univ = iprop(anyPts c cc0_scratch7 (rows 256 0 128) ∗ anyPts c cc0_scratch7 (rows 256 128 128)) :=
  (congrArg (anyPts c cc0_scratch7) (rows_univ 256).symm).trans ((ranges7 c).any 0 128 128)
theorem cut8 : anyPts (F := F) c cc0_scratch8 Finset.univ = iprop(anyPts c cc0_scratch8 (rows 256 0 128) ∗ anyPts c cc0_scratch8 (rows 256 128 128)) :=
  (congrArg (anyPts c cc0_scratch8) (rows_univ 256).symm).trans ((ranges8 c).any 0 128 128)
theorem cut5' : anyPts (F := F) c cc0_scratch5 Finset.univ = anyPts c cc0_scratch5 (rows 256 0 256) := congrArg (anyPts c cc0_scratch5) (rows_univ 256).symm
theorem cut6' : anyPts (F := F) c cc0_scratch6 Finset.univ = anyPts c cc0_scratch6 (rows 256 0 256) := congrArg (anyPts c cc0_scratch6) (rows_univ 256).symm
theorem cut9 : anyPts (F := F) c cc0_scratch9 Finset.univ = anyPts c cc0_scratch9 (rows 256 0 256) := congrArg (anyPts c cc0_scratch9) (rows_univ 256).symm
theorem cut10 : anyPts (F := F) c cc0_scratch10 Finset.univ = anyPts c cc0_scratch10 (rows 256 0 256) := congrArg (anyPts c cc0_scratch10) (rows_univ 256).symm

/-! ## The result -/

/-- The four quarters are the whole, and share no element. -/
theorem quarters : (rows 1024 (256 * own c) 128 ∪ (rows 1024 (256 * own c + 128) 128 ∪ (rows 1024 (256 * diag c) 128 ∪ (rows 1024 (256 * diag c + 128) 128
    ∪ (rows 1024 (256 * own (xn c)) 256 ∪ rows 1024 (256 * own (yn c)) 256))))) = Finset.univ := by
  obtain ⟨h1, h2, h3, -⟩ := own_xn c
  obtain ⟨g1, g2, g3, g4, -⟩ := own_yn c
  have h := own_lt c
  obtain ⟨e1, e2⟩ := diag_ne c
  ext i
  simp only [Finset.mem_union, mem_rows, Finset.mem_univ, iff_true]
  have hi : (i 0).val < 1024 := (i 0).isLt
  omega

theorem quarters_disjoint :
    Disjoint (rows 1024 (256 * own c) 128) (rows 1024 (256 * own c + 128) 128 ∪ (rows 1024 (256 * diag c) 128 ∪ (rows 1024 (256 * diag c + 128) 128
      ∪ (rows 1024 (256 * own (xn c)) 256 ∪ rows 1024 (256 * own (yn c)) 256))))
    ∧ Disjoint (rows 1024 (256 * own c + 128) 128) (rows 1024 (256 * diag c) 128 ∪ (rows 1024 (256 * diag c + 128) 128
      ∪ (rows 1024 (256 * own (xn c)) 256 ∪ rows 1024 (256 * own (yn c)) 256)))
    ∧ Disjoint (rows 1024 (256 * diag c) 128) (rows 1024 (256 * diag c + 128) 128 ∪ (rows 1024 (256 * own (xn c)) 256 ∪ rows 1024 (256 * own (yn c)) 256))
    ∧ Disjoint (rows 1024 (256 * diag c + 128) 128) (rows 1024 (256 * own (xn c)) 256 ∪ rows 1024 (256 * own (yn c)) 256)
    ∧ Disjoint (rows 1024 (256 * own (xn c)) 256) (rows 1024 (256 * own (yn c)) 256) := by
  obtain ⟨h1, h2, h3, -⟩ := own_xn c
  obtain ⟨g1, g2, g3, g4, -⟩ := own_yn c
  obtain ⟨e1, e2⟩ := diag_ne c
  simp only [Finset.disjoint_left, Finset.mem_union, mem_rows]
  refine ⟨fun i hi hj => ?_, fun i hi hj => ?_, fun i hi hj => ?_, fun i hi hj => ?_, fun i hi hj => ?_⟩ <;> omega

theorem cutOut : anyPts (F := F) c main_v1 Finset.univ
    ⊢ iprop(anyPts c main_v1 (rows 1024 (256 * own c) 128) ∗ anyPts c main_v1 (rows 1024 (256 * own c + 128) 128)
      ∗ anyPts c main_v1 (rows 1024 (256 * diag c) 128) ∗ anyPts c main_v1 (rows 1024 (256 * diag c + 128) 128)
      ∗ anyPts c main_v1 (rows 1024 (256 * own (xn c)) 256) ∗ anyPts c main_v1 (rows 1024 (256 * own (yn c)) 256)) := by
  obtain ⟨d1, d2, d3, d4, d5⟩ := quarters_disjoint c
  refine (any_split (c := c) (b := main_v1) (quarters c) d1).trans (sep_mono_right ?_)
  refine (any_split (c := c) (b := main_v1) rfl d2).trans (sep_mono_right ?_)
  refine (any_split (c := c) (b := main_v1) rfl d3).trans (sep_mono_right ?_)
  refine (any_split (c := c) (b := main_v1) rfl d4).trans (sep_mono_right ?_)
  exact any_split (c := c) (b := main_v1) rfl d5

theorem joinOut {q : PosShare TreeShare} {f : (Mat 1024).Idx → F .f32} :
    iprop(pts c main_v1 (rows 1024 (256 * own c) 128) q f ∗ pts c main_v1 (rows 1024 (256 * own c + 128) 128) q f
      ∗ pts c main_v1 (rows 1024 (256 * diag c) 128) q f ∗ pts c main_v1 (rows 1024 (256 * diag c + 128) 128) q f
      ∗ pts c main_v1 (rows 1024 (256 * own (xn c)) 256) q f ∗ pts c main_v1 (rows 1024 (256 * own (yn c)) 256) q f)
    ⊢ pts c main_v1 Finset.univ q f := by
  obtain ⟨d1, d2, d3, d4, d5⟩ := quarters_disjoint c
  refine BIBase.Entails.trans (sep_mono_right ?_) (pts_join (c := c) (b := main_v1) (quarters c) d1)
  refine BIBase.Entails.trans (sep_mono_right ?_) (pts_join (c := c) (b := main_v1) rfl d2)
  refine BIBase.Entails.trans (sep_mono_right ?_) (pts_join (c := c) (b := main_v1) rfl d3)
  refine BIBase.Entails.trans (sep_mono_right ?_) (pts_join (c := c) (b := main_v1) rfl d4)
  exact pts_join (c := c) (b := main_v1) rfl d5

/-- Elements that hold something hold anything. -/
theorem pts_any {b : Ref sig .tc} {I : Finset (Idx ((c : Thread nD τ).loc b))} {f : Buf (Elt F) ((c : Thread nD τ).loc b)} :
    pts c b I fullShare f ⊢ anyPts c b I := by
  iintro H
  iexists f; iexact H

/-- The argument in six shares: one for each fetch, and one kept. -/
theorem shares {b : Ref sig .tc} {I : Finset (Idx ((c : Thread nD τ).loc b))} {f : Buf (Elt F) ((c : Thread nD τ).loc b)} :
    pts c b I fullShare f ⊢ iprop(∃ s1, ∃ s2, ∃ s3, ∃ s4, ∃ s5, (pts c b I s1 f ∗ pts c b I s2 f ∗ pts c b I s3 f ∗ pts c b I s4 f ∗ pts c b I s5 f)
      ∗ pts c b I fullShare.right f) := by
  iintro H
  ihave H := (halve c) $$ H
  icases H with ⟨H, Hr⟩
  ihave H := (pointsTo_share (PosShare.mem_left_op_right _)).1 $$ H
  icases H with ⟨H1, H⟩
  ihave H := (pointsTo_share (PosShare.mem_left_op_right _)).1 $$ H
  icases H with ⟨H2, H⟩
  ihave H := (pointsTo_share (PosShare.mem_left_op_right _)).1 $$ H
  icases H with ⟨H3, H⟩
  ihave H := (pointsTo_share (PosShare.mem_left_op_right _)).1 $$ H
  icases H with ⟨H4, H⟩
  iexists _; iexists _; iexists _; iexists _; iexists _
  isplitr [Hr]
  · isplitl [H1]; · iexact H1
    isplitl [H2]; · iexact H2
    isplitl [H3]; · iexact H3
    isplitl [H4]; · iexact H4
    iexact H
  iexact Hr

end Buffers

end Cert.RowNorm
-- ==== Proof.Body.lean ====
/-
# One device's kernel

The pieces run one after the other: what each leaves is what the next ones take. At the end every cell is closed, the
result holds its rows, and every buffer is whole again.
-/
module

public import proofs.«01_k».proof.Proof.PartsIn
public import proofs.«01_k».proof.Proof.PartsOut
public import proofs.«01_k».proof.Proof.Ranges

@[expose] public section

set_option maxRecDepth 16384

noncomputable section

namespace Cert.RowNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 28 → ℕ)

section Body

variable (c : Dev nD)

/-- The neighbours' duties that device `c` pays: a unit at each barrier cell, and its transfers into their buffers. -/
def tokens : sProp 𝕄 :=
  iprop(dutyTok ER (kcell (zp c, 0)) 0 (0 : Du) ∗ dutyTok ER (kcell (xn c, 0)) 0 (1 : Du) ∗ dutyTok ER (kcell (yn c, 0)) 0 (2 : Du)
    ∗ dutyTok ER (kcell (zp c, 16)) 0 (0 : Du) ∗ dutyTok ER (kcell (zp c, 17)) 0 (0 : Du) ∗ dutyTok ER (kcell (zp c, 18)) 0 (0 : Du)
    ∗ dutyTok ER (kcell (zp c, 19)) 0 (0 : Du) ∗ dutyTok ER (kcell (xn c, 24)) 0 (0 : Du) ∗ dutyTok ER (kcell (xn c, 25)) 0 (0 : Du)
    ∗ dutyTok ER (kcell (yn c, 26)) 0 (0 : Du) ∗ dutyTok ER (kcell (yn c, 27)) 0 (0 : Du))

/-- The cells the neighbours complete. -/
def pends : sProp 𝕄 := iprop(pend c 0 ∗ pend c 16 ∗ pend c 17 ∗ pend c 18 ∗ pend c 19 ∗ pend c 24 ∗ pend c 25 ∗ pend c 26 ∗ pend c 27)

/-- The cells device `c` completes itself. -/
def idles : sProp 𝕄 :=
  iprop(idle c 1 ∗ idle c 2 ∗ idle c 3 ∗ idle c 4 ∗ idle c 5 ∗ idle c 6 ∗ idle c 7 ∗ idle c 8 ∗ idle c 9 ∗ idle c 10 ∗ idle c 11 ∗ idle c 12 ∗ idle c 13 ∗ idle c 14 ∗ idle c 15 ∗ idle c 20 ∗ idle c 21 ∗ idle c 22 ∗ idle c 23)

/-- The transfer cells, closed. -/
def closeds : sProp 𝕄 :=
  iprop(closed c 1 ∗ closed c 2 ∗ closed c 3 ∗ closed c 4 ∗ closed c 5 ∗ closed c 6 ∗ closed c 7 ∗ closed c 8 ∗ closed c 9 ∗ closed c 10 ∗ closed c 11 ∗ closed c 12 ∗ closed c 13 ∗ closed c 14
    ∗ closed c 15 ∗ closed c 16 ∗ closed c 17 ∗ closed c 18 ∗ closed c 19 ∗ closed c 20 ∗ closed c 21 ∗ closed c 22 ∗ closed c 23 ∗ closed c 24 ∗ closed c 25 ∗ closed c 26 ∗ closed c 27)

/-- The kernel's buffers, whole. -/
def scratch : sProp 𝕄 :=
  iprop(anyPts c cc0_scratch0 Finset.univ ∗ anyPts c cc0_scratch1 Finset.univ ∗ anyPts c cc0_scratch2 Finset.univ ∗ anyPts c cc0_scratch3 Finset.univ ∗ anyPts c cc0_scratch4 Finset.univ ∗ anyPts c cc0_scratch5 Finset.univ
    ∗ anyPts c cc0_scratch6 Finset.univ ∗ anyPts c cc0_scratch7 Finset.univ ∗ anyPts c cc0_scratch8 Finset.univ ∗ anyPts c cc0_scratch9 Finset.univ ∗ anyPts c cc0_scratch10 Finset.univ)

/-! ## The buffers whole again -/

/-- The stores that are over leave the result, and the buffers they read. -/
theorem stores_over : iprop(dmaPay m c (6 : Fin 28).val ∗ dmaPay m c (7 : Fin 28).val ∗ dmaPay m c (8 : Fin 28).val ∗ dmaPay m c (9 : Fin 28).val ∗ dmaPay m c (10 : Fin 28).val ∗ dmaPay m c (11 : Fin 28).val)
    ⊢ iprop(pts c main_v1 Finset.univ fullShare (result m c) ∗ anyPts c cc0_scratch7 Finset.univ ∗ anyPts c cc0_scratch8 Finset.univ
      ∗ anyPts c cc0_scratch9 Finset.univ ∗ anyPts c cc0_scratch10 Finset.univ) := by
  rw [cut7, cut8, cut9, cut10]
  show iprop((pts c main_v1 (rows 1024 (256 * own c) 128) fullShare (result m c) ∗ pts c cc0_scratch7 (rows 256 0 128) fullShare (ownQ m c)) ∗ (pts c main_v1 (rows 1024 (256 * own c + 128) 128) fullShare (result m c) ∗ pts c cc0_scratch7 (rows 256 128 128) fullShare (ownQ m c)) ∗ (pts c main_v1 (rows 1024 (256 * diag c) 128) fullShare (result m c) ∗ pts c cc0_scratch8 (rows 256 0 128) fullShare (diagQ m c)) ∗ (pts c main_v1 (rows 1024 (256 * diag c + 128) 128) fullShare (result m c) ∗ pts c cc0_scratch8 (rows 256 128 128) fullShare (diagQ m c)) ∗ (pts c main_v1 (rows 1024 (256 * own (xn c)) 256) fullShare (result m c) ∗ pts c cc0_scratch9 (rows 256 0 256) fullShare (xQ m c)) ∗ (pts c main_v1 (rows 1024 (256 * own (yn c)) 256) fullShare (result m c) ∗ pts c cc0_scratch10 (rows 256 0 256) fullShare (yQ m c))) ⊢ _
  iintro ⟨⟨Hv0, H0⟩, ⟨Hv1, H1⟩, ⟨Hv2, H2⟩, ⟨Hv3, H3⟩, ⟨Hv4, H4⟩, ⟨Hv5, H5⟩⟩
  isplitl [Hv0 Hv1 Hv2 Hv3 Hv4 Hv5]
  · iapply (joinOut c)
    isplitl [Hv0]; · iexact Hv0
    isplitl [Hv1]; · iexact Hv1
    isplitl [Hv2]; · iexact Hv2
    isplitl [Hv3]; · iexact Hv3
    isplitl [Hv4]; · iexact Hv4
    iexact Hv5
  isplitl [H0 H1]
  · isplitl [H0]; · iapply (pts_any c) $$ H0
    iapply (pts_any c) $$ H1
  isplitl [H2 H3]
  · isplitl [H2]; · iapply (pts_any c) $$ H2
    iapply (pts_any c) $$ H3
  isplitl [H4]; · iapply (pts_any c) $$ H4
  iapply (pts_any c) $$ H5

/-- The blocks sent across `z` leave their buffer. -/
theorem sentZ_over : iprop(dmaPay m c (12 : Fin 28).val ∗ dmaPay m c (13 : Fin 28).val ∗ dmaPay m c (14 : Fin 28).val ∗ dmaPay m c (15 : Fin 28).val) ⊢ anyPts c cc0_scratch2 Finset.univ := by
  rw [cut2]
  show iprop(pts c cc0_scratch2 (rows 512 0 128) fullShare (sentZ m c) ∗ pts c cc0_scratch2 (rows 512 128 128) fullShare (sentZ m c) ∗ pts c cc0_scratch2 (rows 512 256 128) fullShare (sentZ m c) ∗ pts c cc0_scratch2 (rows 512 384 128) fullShare (sentZ m c)) ⊢ _
  iintro ⟨H0, H1, H2, H3⟩
  isplitl [H0]; · iapply (pts_any c) $$ H0
  isplitl [H1]; · iapply (pts_any c) $$ H1
  isplitl [H2]; · iapply (pts_any c) $$ H2
  iapply (pts_any c) $$ H3

/-- The blocks of the own quarter, sent twice each, leave their buffer. -/
theorem sentQ_over : iprop(dmaPay m c (20 : Fin 28).val ∗ dmaPay m c (21 : Fin 28).val ∗ dmaPay m c (22 : Fin 28).val ∗ dmaPay m c (23 : Fin 28).val) ⊢ anyPts c cc0_scratch4 Finset.univ := by
  rw [cut4]
  show iprop(pts c cc0_scratch4 (rows 256 0 128) fullShare.left (sentQ m c) ∗ pts c cc0_scratch4 (rows 256 128 128) fullShare.left (sentQ m c) ∗ pts c cc0_scratch4 (rows 256 0 128) fullShare.right (sentQ m c) ∗ pts c cc0_scratch4 (rows 256 128 128) fullShare.right (sentQ m c)) ⊢ _
  iintro ⟨H0, H1, H2, H3⟩
  isplitl [H0 H2]
  · iapply (pts_any c)
    iapply (unhalve c)
    isplitl [H0]; · iexact H0
    iexact H2
  · iapply (pts_any c)
    iapply (unhalve c)
    isplitl [H1]; · iexact H1
    iexact H3

/-- The rows fetched and received leave their buffers. -/
theorem rows_over : iprop((pts c cc0_scratch0 (rows 512 0 128) fullShare (peerRows m c) ∗ pts c cc0_scratch0 (rows 512 128 128) fullShare (peerRows m c)
      ∗ pts c cc0_scratch0 (rows 512 256 256) fullShare (peerRows m c))
    ∗ (pts c cc0_scratch1 (rows 512 0 256) fullShare (ownRows m c) ∗ pts c cc0_scratch1 (rows 512 256 256) fullShare (ownRows m c))
    ∗ (pts c cc0_scratch3 (rows 512 0 128) fullShare (recvZ m c) ∗ pts c cc0_scratch3 (rows 512 128 128) fullShare (recvZ m c)
      ∗ pts c cc0_scratch3 (rows 512 256 128) fullShare (recvZ m c) ∗ pts c cc0_scratch3 (rows 512 384 128) fullShare (recvZ m c))
    ∗ pts c cc0_scratch5 (rows 256 0 256) fullShare (sentQ m (xn c)) ∗ pts c cc0_scratch6 (rows 256 0 256) fullShare (sentQ m (yn c)))
    ⊢ iprop(anyPts c cc0_scratch0 Finset.univ ∗ anyPts c cc0_scratch1 Finset.univ ∗ anyPts c cc0_scratch3 Finset.univ
      ∗ anyPts c cc0_scratch5 Finset.univ ∗ anyPts c cc0_scratch6 Finset.univ) := by
  rw [cut0, cut1, cut3, cut5', cut6']
  iintro ⟨⟨A0, A1, A2⟩, ⟨B0, B1⟩, ⟨C0, C1, C2, C3⟩, D, E⟩
  isplitl [A0 A1 A2]
  · isplitl [A0]; · iapply (pts_any c) $$ A0
    isplitl [A1]; · iapply (pts_any c) $$ A1
    iapply (pts_any c) $$ A2
  isplitl [B0 B1]
  · isplitl [B0]; · iapply (pts_any c) $$ B0
    iapply (pts_any c) $$ B1
  isplitl [C0 C1 C2 C3]
  · isplitl [C0]; · iapply (pts_any c) $$ C0
    isplitl [C1]; · iapply (pts_any c) $$ C1
    isplitl [C2]; · iapply (pts_any c) $$ C2
    iapply (pts_any c) $$ C3
  isplitl [D]; · iapply (pts_any c) $$ D
  iapply (pts_any c) $$ E

/-! ## The run -/

/-- A program in two pieces. -/
theorem runs_bind {α β : Type} {Q : β → sProp (MT nD τ sig Unit (Elt F) ℕ UU ℕ)} (p : Prog (TpuEff nD τ sig (Elt F) Λ₀ .tc) α)
    (k : α → Prog (TpuEff nD τ sig (Elt F) Λ₀ .tc) β) : Runs c p (fun a => Runs c (k a) Q) ⊢ Runs c (p >>= k) Q := by
  unfold Runs
  rw [wp_bind]

set_option maxHeartbeats 1600000 in
/-- Device `c`'s kernel, from its duties and its whole buffers, runs and leaves its result. -/
theorem body_runs {Q : PUnit → sProp (MT nD τ sig Unit (Elt F) ℕ UU ℕ)} :
    records m K ⊢ iprop(pts c cc0_stg0_0 Finset.univ fullShare (m ((c : Thread nD τ).loc main_arg1)) -∗ owe c debts0
      -∗ tokens c -∗ pends c -∗ idles c -∗ scratch c -∗ anyPts c main_v1 Finset.univ -∗ pts c main_arg0 Finset.univ fullShare (part m c)
      -∗ ((pts c cc0_stg0_0 Finset.univ fullShare (m ((c : Thread nD τ).loc main_arg1)) ∗ owe c debts11 ∗ closed c 0 ∗ closeds c ∗ scratch c
          ∗ pts c main_v1 Finset.univ fullShare (result m c) ∗ pts c main_arg0 Finset.univ fullShare.right (part m c)) -∗ Q ⟨⟩)
      -∗ Runs c (onBufs (cc0_body (F := F))) Q) := by
  unfold onBufs
  rw [cc0_body_eq_skeleton]
  unfold cc0_body_skel
  unfold tokens pends idles
  iintro #HR Hg Ho ⟨Tz, Tx, Ty, T16, T17, T18, T19, T24, T25, T26, T27⟩ ⟨P0, P16, P17, P18, P19, P24, P25, P26, P27⟩ ⟨I1, I2, I3, I4, I5, I6, I7, I8, I9, I10, I11, I12, I13, I14, I15, I20, I21, I22, I23⟩ Hs Hv Ha Hk
  ihave Hs := (Entails.of_eq (show scratch (F := F) c = _ from rfl)) $$ Hs
  unfold scratch
  icases Hs with ⟨S0, S1, S2, S3, S4, S5, S6, S7, S8, S9, S10⟩
  ihave S0 := (Entails.of_eq (cut0 c)) $$ S0
  icases S0 with ⟨S0a, S0b, S0c⟩
  ihave S1 := (Entails.of_eq (cut1 c)) $$ S1
  icases S1 with ⟨S1a, S1b⟩
  ihave S2 := (Entails.of_eq (cut2 c)) $$ S2
  icases S2 with ⟨S2a, S2b, S2c, S2d⟩
  ihave S4 := (Entails.of_eq (cut4 c)) $$ S4
  icases S4 with ⟨S4a, S4b⟩
  ihave S7 := (Entails.of_eq (cut7 c)) $$ S7
  icases S7 with ⟨S7a, S7b⟩
  ihave S8 := (Entails.of_eq (cut8 c)) $$ S8
  icases S8 with ⟨S8a, S8b⟩
  ihave S9 := (Entails.of_eq (cut9 c)) $$ S9
  ihave S10 := (Entails.of_eq (cut10 c)) $$ S10
  ihave Hv := (cutOut c) $$ Hv
  icases Hv with ⟨V1, V2, V3, V4, V5, V6⟩
  ihave Ha := (shares c) $$ Ha
  icases Ha with ⟨%s1, %s2, %s3, %s4, %s5, ⟨A1, A2, A3, A4, A5⟩, Ha⟩
  iapply (runs_bind c _ _)
  iapply (part1_runs m c) $$ Hg
  iintro Hg %v2 %v5 %v8 %v9 %v10 %v11 %v13 %v14 %v17 %v20 %v21
  dsimp only
  iapply (runs_bind c _ _)
  iapply (part2_runs m K c _ _) $$ HR [A1 A2 A3 A4 A5] [S0a S0b S0c S1a S1b] [I1 I2 I3 I4 I5]
  · isplitl [A1]; · iexact A1
    isplitl [A2]; · iexact A2
    isplitl [A3]; · iexact A3
    isplitl [A4]; · iexact A4
    iexact A5
  · isplitl [S0a]; · iexact S0a
    isplitl [S0b]; · iexact S0b
    isplitl [S0c]; · iexact S0c
    isplitl [S1a]; · iexact S1a
    iexact S1b
  · isplitl [I1]; · iexact I1
    isplitl [I2]; · iexact I2
    isplitl [I3]; · iexact I3
    isplitl [I4]; · iexact I4
    iexact I5
  iintro ⟨P1, P2, P3, P4, P5⟩
  iapply (runs_bind c _ _)
  iapply (part3_runs m K c _ _ _ _ _ _) $$ HR [Ho Tz Tx Ty] [S3 S5 S6] [P0 P1 S2a]
  · isplitl [Ho]; · iexact Ho
    isplitl [Tz]; · iexact Tz
    isplitl [Tx]; · iexact Tx
    iexact Ty
  · isplitl [S3]; · iexact S3
    isplitl [S5]; · iexact S5
    iexact S6
  · isplitl [P0]; · iexact P0
    isplitl [P1]; · iexact P1
    iexact S2a
  iintro ⟨Ho, ⟨Z3, X5, Y6⟩, C0, C1, S0a, S2a⟩
  ihave Z3 := (Entails.of_eq (cut3 (zp c))) $$ Z3
  icases Z3 with ⟨Za, Zb, Zc, Zd⟩
  ihave X5 := (Entails.of_eq (cut5 (xn c))) $$ X5
  icases X5 with ⟨Xa, Xb⟩
  ihave Y6 := (Entails.of_eq (cut6 (yn c))) $$ Y6
  icases Y6 with ⟨Ya, Yb⟩
  iapply (runs_bind c _ _)
  iapply (part4_runs m K c _ _ _) $$ HR Ho [S2a Za I12 T16] [P2 S2b]
  · isplitl [S2a]; · iexact S2a
    isplitl [Za]; · iexact Za
    isplitl [I12]; · iexact I12
    iexact T16
  · isplitl [P2]; · iexact P2
    iexact S2b
  iintro ⟨Ho, P12, C2, S0b, S2b⟩
  iapply (runs_bind c _ _)
  iapply (part5_runs m K c _ _ _) $$ HR Ho [S2b Zb I13 T17] [Zc I14 T18] [P3 S2c S2d]
  · isplitl [S2b]; · iexact S2b
    isplitl [Zb]; · iexact Zb
    isplitl [I13]; · iexact I13
    iexact T17
  · isplitl [Zc]; · iexact Zc
    isplitl [I14]; · iexact I14
    iexact T18
  · isplitl [P3]; · iexact P3
    isplitl [S2c]; · iexact S2c
    iexact S2d
  iintro ⟨Ho, P13, P14, C3, S0c, S2d⟩
  iapply (runs_bind c _ _)
  iapply (part6_runs m K c _ _ _) $$ HR Ho [S2d Zd I15 T19] [P4 P16]
  · isplitl [S2d]; · iexact S2d
    isplitl [Zd]; · iexact Zd
    isplitl [I15]; · iexact I15
    iexact T19
  · isplitl [P4]; · iexact P4
    iexact P16
  iintro ⟨Ho, P15, C4, C16, S1a, S3a⟩
  iapply (runs_bind c _ _)
  iapply (part7_runs m K c _ _ _ _) $$ HR Ho [S3a S7a S4a] [Xa I20 T24]
  · isplitl [S3a]; · iexact S3a
    isplitl [S7a]; · iexact S7a
    iexact S4a
  · isplitl [Xa]; · iexact Xa
    isplitl [I20]; · iexact I20
    iexact T24
  iintro %r7 ⟨Ho, P20, S3a, S7a, S4a⟩
  obtain ⟨u7, w7⟩ := r7
  dsimp only
  iapply (runs_bind c _ _)
  iapply (part8_runs m K c _ _ _ _ _ _ _ _) $$ HR Ho [S4a Ya I22 T26] [S7a V1 I6] [P17 S1a]
  · isplitl [S4a]; · iexact S4a
    isplitl [Ya]; · iexact Ya
    isplitl [I22]; · iexact I22
    iexact T26
  · isplitl [S7a]; · iexact S7a
    isplitl [V1]; · iexact V1
    iexact I6
  · isplitl [P17]; · iexact P17
    iexact S1a
  iintro ⟨Ho, P22, P6, C17, S1a, S3b⟩
  iapply (runs_bind c _ _)
  iapply (part9_runs m K c _ _ _ _ _) $$ HR Ho [S7b S4b] [Xb I21 T25]
  · isplitl [S7b]; · iexact S7b
    iexact S4b
  · isplitl [Xb]; · iexact Xb
    isplitl [I21]; · iexact I21
    iexact T25
  iintro %r9 ⟨Ho, P21, S7b, S4b⟩
  obtain ⟨u9, w9⟩ := r9
  dsimp only
  iapply (runs_bind c _ _)
  iapply (part10_runs m K c _ _ _ _ _ _ _) $$ HR Ho [S4b Yb I23 T27] [S7b V2 I7] [P5 P18]
  · isplitl [S4b]; · iexact S4b
    isplitl [Yb]; · iexact Yb
    isplitl [I23]; · iexact I23
    iexact T27
  · isplitl [S7b]; · iexact S7b
    isplitl [V2]; · iexact V2
    iexact I7
  · isplitl [P5]; · iexact P5
    iexact P18
  iintro ⟨Ho, P23, P7, C5, C18, S1b, S3c⟩
  iapply (runs_bind c _ _)
  iapply (part11_runs m K c _ _ _ _) $$ HR [S1b S3c] [S8a V3 I8]
  · isplitl [S1b]; · iexact S1b
    iexact S3c
  · isplitl [S8a]; · iexact S8a
    isplitl [V3]; · iexact V3
    iexact I8
  iintro ⟨P8, S1b, S3c⟩
  iapply (runs_bind c _ _)
  iapply (part12_runs m K c _ _ _ _) $$ HR Ho [P19 S1b] [S8b V4 I9]
  · isplitl [P19]; · iexact P19
    iexact S1b
  · isplitl [S8b]; · iexact S8b
    isplitl [V4]; · iexact V4
    iexact I9
  iintro ⟨Ho, C19, P9, S1b, S3d⟩
  iapply (runs_bind c _ _)
  iapply (part13_runs m K c _ _ _ _ _ _) $$ HR Ho [P24 P25] [S9 V5 I10]
  · isplitl [P24]; · iexact P24
    iexact P25
  · isplitl [S9]; · iexact S9
    isplitl [V5]; · iexact V5
    iexact I10
  iintro ⟨Ho, C24, C25, P10, S5⟩
  iapply (runs_bind c _ _)
  iapply (part14_runs m K c _ _ _ _) $$ HR Ho [P26 P27 P6] [S10 V6 I11]
  · isplitl [P26]; · iexact P26
    isplitl [P27]; · iexact P27
    iexact P6
  · isplitl [S10]; · iexact S10
    isplitl [V6]; · iexact V6
    iexact I11
  iintro ⟨Ho, C26, C27, P11, S6, C6, D6⟩
  iapply (runs_bind c _ _)
  iapply (part15_runs m K c ) $$ HR Ho [P7 P8 P9 P10 P11 P12 P13]
  · isplitl [P7]; · iexact P7
    isplitl [P8]; · iexact P8
    isplitl [P9]; · iexact P9
    isplitl [P10]; · iexact P10
    isplitl [P11]; · iexact P11
    isplitl [P12]; · iexact P12
    iexact P13
  iintro ⟨Ho, D7, D8, D9, D10, D11, D12, D13⟩
  iapply (runs_bind c _ _)
  iapply (part16_runs m K c ) $$ HR Ho [P14 P15 P20 P22 P21]
  · isplitl [P14]; · iexact P14
    isplitl [P15]; · iexact P15
    isplitl [P20]; · iexact P20
    isplitl [P22]; · iexact P22
    iexact P21
  iintro ⟨Ho, D14, D15, D20, D22, D21⟩
  simp only [Prog.lift, Prog.bind_op, Prog.bind_ret, Prog.pure_eq_ret]
  iapply (step_done m K c 23 (by decide) rfl rfl) $$ HR P23 Ho
  iintro ⟨Ho, D23⟩
  unfold done
  icases D7 with ⟨C7, D7⟩
  icases D8 with ⟨C8, D8⟩
  icases D9 with ⟨C9, D9⟩
  icases D10 with ⟨C10, D10⟩
  icases D11 with ⟨C11, D11⟩
  icases D12 with ⟨C12, D12⟩
  icases D13 with ⟨C13, D13⟩
  icases D14 with ⟨C14, D14⟩
  icases D15 with ⟨C15, D15⟩
  icases D20 with ⟨C20, D20⟩
  icases D21 with ⟨C21, D21⟩
  icases D22 with ⟨C22, D22⟩
  icases D23 with ⟨C23, D23⟩
  iapply (runs_ret c _)
  iapply Hk
  ihave H1 := (stores_over m c) $$ [D6 D7 D8 D9 D10 D11]
  · isplitl [D6]; · iexact D6
    isplitl [D7]; · iexact D7
    isplitl [D8]; · iexact D8
    isplitl [D9]; · iexact D9
    isplitl [D10]; · iexact D10
    iexact D11
  icases H1 with ⟨Hv, S7, S8, S9, S10⟩
  ihave S2 := (sentZ_over m c) $$ [D12 D13 D14 D15]
  · isplitl [D12]; · iexact D12
    isplitl [D13]; · iexact D13
    isplitl [D14]; · iexact D14
    iexact D15
  ihave S4 := (sentQ_over m c) $$ [D20 D21 D22 D23]
  · isplitl [D20]; · iexact D20
    isplitl [D21]; · iexact D21
    isplitl [D22]; · iexact D22
    iexact D23
  ihave H2 := (rows_over m c) $$ [S0a S0b S0c S1a S1b S3a S3b S3c S3d S5 S6]
  · isplitl [S0a S0b S0c]
    · isplitl [S0a]; · iexact S0a
      isplitl [S0b]; · iexact S0b
      iexact S0c
    isplitl [S1a S1b]
    · isplitl [S1a]; · iexact S1a
      iexact S1b
    isplitl [S3a S3b S3c S3d]
    · isplitl [S3a]; · iexact S3a
      isplitl [S3b]; · iexact S3b
      isplitl [S3c]; · iexact S3c
      iexact S3d
    isplitl [S5]; · iexact S5
    iexact S6
  icases H2 with ⟨S0, S1, S3, S5, S6⟩
  isplitl [Hg]; · iexact Hg
  isplitl [Ho]; · iexact Ho
  isplitl [C0]; · iexact C0
  isplitl [C1 C2 C3 C4 C5 C6 C7 C8 C9 C10 C11 C12 C13 C14 C15 C16 C17 C18 C19 C20 C21 C22 C23 C24 C25 C26 C27]
  · unfold closeds
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    isplitl [C20]; · iexact C20
    isplitl [C21]; · iexact C21
    isplitl [C22]; · iexact C22
    isplitl [C23]; · iexact C23
    isplitl [C24]; · iexact C24
    isplitl [C25]; · iexact C25
    isplitl [C26]; · iexact C26
    iexact C27
  isplitl [S0 S1 S2 S3 S4 S5 S6 S7 S8 S9 S10]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  isplitl [Hv]; · iexact Hv
  iexact Ha

end Body

end Cert.RowNorm
-- ==== Proof.Deal.lean ====
/-
# What the launch deals

The launch mints the duties of every cell of every device; each duty goes to the device that pays it. Who pays a duty of
whom is symmetric: the pair, the device with the other `x` or `y`, or the device itself. The credits of the cells that
the neighbours complete come out of what the neighbours owe.
-/
module

public import proofs.«01_k».proof.Proof.Body
public import Idealize.ShloMosaic.Lib.Pipeline.CollectiveSegs

@[expose] public section

set_option maxRecDepth 16384

noncomputable section

namespace Cert.RowNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 28 → ℕ)

/-! ## The duties -/

/-- Duty `j` of a device: the three of its barrier cell, then the one of each transfer cell. -/
def tokCell (j : Fin 30) : Fin 28 := ⟨j.val - 2, by have := j.isLt; omega⟩
def tokDuty (j : Fin 30) : Du := if h : j.val < 3 then ⟨j.val, h⟩ else 0

/-- The device whose duty `j` device `c` pays, which pays duty `j` of `c`. -/
def other (j : Fin 30) (c : Dev nD) : Dev nD :=
  if j.val = 0 ∨ 18 ≤ j.val ∧ j.val < 22 then zp c
  else if j.val = 1 ∨ 26 ≤ j.val ∧ j.val < 28 then xn c
  else if j.val = 2 ∨ 28 ≤ j.val then yn c
  else c

theorem other_other (j : Fin 30) (c : Dev nD) : other j (other j c) = c := by
  unfold other
  split
  · exact zp_zp c
  · split
    · exact xn_xn c
    · split
      · exact yn_yn c
      · rfl

/-- Duty and payer, each for the other. -/
def otherEquiv : Dev nD × Fin 30 ≃ Dev nD × Fin 30 where
  toFun p := (other p.2 p.1, p.2)
  invFun p := (other p.2 p.1, p.2)
  left_inv p := Prod.ext (other_other p.2 p.1) rfl
  right_inv p := Prod.ext (other_other p.2 p.1) rfl

theorem tok_injective : Function.Injective fun j : Fin 30 => (tokCell j, tokDuty j) := by decide

abbrev tokOf (p : Dev nD × Fin 30) : GSem nD τ sig × ℕ × Du := (kcell (p.1, tokCell p.2), 0, tokDuty p.2)

theorem tokOf_injective : Function.Injective tokOf := by
  rintro ⟨c, j⟩ ⟨c', j'⟩ h
  have h1 : (c, tokCell j) = (c', tokCell j') := kcell_injective (congrArg Prod.fst h)
  have h2 : tokDuty j = tokDuty j' := congrArg (fun x : GSem nD τ sig × ℕ × Du => x.2.2) h
  have h3 : j = j' := tok_injective (Prod.ext (congrArg Prod.snd h1) h2)
  exact Prod.ext (congrArg (fun x : Dev nD × Fin 28 => x.1) h1) h3

def allCells : Finset (GSem nD τ sig) := Finset.univ.map ⟨kcell, kcell_injective⟩
def allToks : Finset (GSem nD τ sig × ℕ × Du) := Finset.univ.map ⟨tokOf, tokOf_injective⟩

/-- The duties of device `c`'s cells, and the duties device `c` pays. -/
def toks (c : Dev nD) : sProp 𝕄 := bigSep Finset.univ fun j : Fin 30 => dutyTok ER (kcell (c, tokCell j)) 0 (tokDuty j)
def payToks (c : Dev nD) : sProp 𝕄 := bigSep Finset.univ fun j : Fin 30 => dutyTok ER (kcell (other j c, tokCell j)) 0 (tokDuty j)

/-- Every duty goes to the device that pays it. -/
theorem toks_dealt : (bigSep Finset.univ fun c : Dev nD => (toks c : sProp 𝕄)) = bigSep Finset.univ fun c : Dev nD => payToks c := by
  unfold toks payToks
  rw [← bigSep_univ_prod (fun p : Dev nD × Fin 30 => (dutyTok ER (kcell (p.1, tokCell p.2)) 0 (tokDuty p.2) : sProp 𝕄)),
    ← bigSep_univ_prod (fun p : Dev nD × Fin 30 => (dutyTok ER (kcell (other p.2 p.1, tokCell p.2)) 0 (tokDuty p.2) : sProp 𝕄))]
  exact bigSep_univ_equiv otherEquiv fun p : Dev nD × Fin 30 => (dutyTok ER (kcell (p.1, tokCell p.2)) 0 (tokDuty p.2) : sProp 𝕄)

/-- What stays with device `c`: where it stands at its cells, and the duties it pays. -/
def linear (c : Dev nD) : sProp 𝕄 :=
  iprop((bigSep Finset.univ fun q : Fin 28 => atPos ER (kcell (c, q)) 0 ∅ 0) ∗ payToks c)

/-- The credits of the cells the neighbours complete. -/
def credits (c : Dev nD) : sProp 𝕄 :=
  iprop(cred (tallyAt (kcell (c, 0)) () (amt 0)) ∗ cred (tallyAt (kcell (c, 16)) () (amt 16)) ∗ cred (tallyAt (kcell (c, 17)) () (amt 17))
      ∗ cred (tallyAt (kcell (c, 18)) () (amt 18)) ∗ cred (tallyAt (kcell (c, 19)) () (amt 19)) ∗ cred (tallyAt (kcell (c, 24)) () (amt 24))
      ∗ cred (tallyAt (kcell (c, 25)) () (amt 25)) ∗ cred (tallyAt (kcell (c, 26)) () (amt 26)) ∗ cred (tallyAt (kcell (c, 27)) () (amt 27)))

theorem payToks_list (c : Dev nD) : (payToks c : sProp 𝕄) =
    iprop(dutyTok ER (kcell (zp c, 0)) 0 (0 : Du) ∗ dutyTok ER (kcell (xn c, 0)) 0 (1 : Du) ∗ dutyTok ER (kcell (yn c, 0)) 0 (2 : Du)
      ∗ dutyTok ER (kcell (c, 1)) 0 (0 : Du) ∗ dutyTok ER (kcell (c, 2)) 0 (0 : Du) ∗ dutyTok ER (kcell (c, 3)) 0 (0 : Du)
      ∗ dutyTok ER (kcell (c, 4)) 0 (0 : Du) ∗ dutyTok ER (kcell (c, 5)) 0 (0 : Du) ∗ dutyTok ER (kcell (c, 6)) 0 (0 : Du)
      ∗ dutyTok ER (kcell (c, 7)) 0 (0 : Du) ∗ dutyTok ER (kcell (c, 8)) 0 (0 : Du) ∗ dutyTok ER (kcell (c, 9)) 0 (0 : Du)
      ∗ dutyTok ER (kcell (c, 10)) 0 (0 : Du) ∗ dutyTok ER (kcell (c, 11)) 0 (0 : Du) ∗ dutyTok ER (kcell (c, 12)) 0 (0 : Du)
      ∗ dutyTok ER (kcell (c, 13)) 0 (0 : Du) ∗ dutyTok ER (kcell (c, 14)) 0 (0 : Du) ∗ dutyTok ER (kcell (c, 15)) 0 (0 : Du)
      ∗ dutyTok ER (kcell (zp c, 16)) 0 (0 : Du) ∗ dutyTok ER (kcell (zp c, 17)) 0 (0 : Du) ∗ dutyTok ER (kcell (zp c, 18)) 0 (0 : Du)
      ∗ dutyTok ER (kcell (zp c, 19)) 0 (0 : Du) ∗ dutyTok ER (kcell (c, 20)) 0 (0 : Du) ∗ dutyTok ER (kcell (c, 21)) 0 (0 : Du)
      ∗ dutyTok ER (kcell (c, 22)) 0 (0 : Du) ∗ dutyTok ER (kcell (c, 23)) 0 (0 : Du) ∗ dutyTok ER (kcell (xn c, 24)) 0 (0 : Du)
      ∗ dutyTok ER (kcell (xn c, 25)) 0 (0 : Du) ∗ dutyTok ER (kcell (yn c, 26)) 0 (0 : Du) ∗ dutyTok ER (kcell (yn c, 27)) 0 (0 : Du)) := by
  unfold payToks
  rw [bigSep_univ_eq_bigSepL [0, 1, 2, 3, 4, 5, 6, 7, 8, 9, 10, 11, 12, 13, 14, 15, 16, 17, 18, 19, 20, 21, 22, 23, 24, 25, 26, 27, 28, 29] (by decide) (by decide)]
  rfl

theorem atPos_list (c : Dev nD) : (bigSep Finset.univ fun q : Fin 28 => (atPos ER (kcell (c, q)) 0 ∅ 0 : sProp 𝕄)) =
    iprop(atPos ER (kcell (c, 0)) 0 ∅ 0 ∗ atPos ER (kcell (c, 1)) 0 ∅ 0 ∗ atPos ER (kcell (c, 2)) 0 ∅ 0 ∗ atPos ER (kcell (c, 3)) 0 ∅ 0
      ∗ atPos ER (kcell (c, 4)) 0 ∅ 0 ∗ atPos ER (kcell (c, 5)) 0 ∅ 0 ∗ atPos ER (kcell (c, 6)) 0 ∅ 0 ∗ atPos ER (kcell (c, 7)) 0 ∅ 0
      ∗ atPos ER (kcell (c, 8)) 0 ∅ 0 ∗ atPos ER (kcell (c, 9)) 0 ∅ 0 ∗ atPos ER (kcell (c, 10)) 0 ∅ 0 ∗ atPos ER (kcell (c, 11)) 0 ∅ 0
      ∗ atPos ER (kcell (c, 12)) 0 ∅ 0 ∗ atPos ER (kcell (c, 13)) 0 ∅ 0 ∗ atPos ER (kcell (c, 14)) 0 ∅ 0 ∗ atPos ER (kcell (c, 15)) 0 ∅ 0
      ∗ atPos ER (kcell (c, 16)) 0 ∅ 0 ∗ atPos ER (kcell (c, 17)) 0 ∅ 0 ∗ atPos ER (kcell (c, 18)) 0 ∅ 0 ∗ atPos ER (kcell (c, 19)) 0 ∅ 0
      ∗ atPos ER (kcell (c, 20)) 0 ∅ 0 ∗ atPos ER (kcell (c, 21)) 0 ∅ 0 ∗ atPos ER (kcell (c, 22)) 0 ∅ 0 ∗ atPos ER (kcell (c, 23)) 0 ∅ 0
      ∗ atPos ER (kcell (c, 24)) 0 ∅ 0 ∗ atPos ER (kcell (c, 25)) 0 ∅ 0 ∗ atPos ER (kcell (c, 26)) 0 ∅ 0 ∗ atPos ER (kcell (c, 27)) 0 ∅ 0) := by
  rw [bigSep_univ_eq_bigSepL [0, 1, 2, 3, 4, 5, 6, 7, 8, 9, 10, 11, 12, 13, 14, 15, 16, 17, 18, 19, 20, 21, 22, 23, 24, 25, 26, 27] (by decide) (by decide)]
  rfl

/-- What is dealt to device `c` is what its kernel begins with. -/
theorem dealt (c : Dev nD) : iprop(linear c ∗ credits c) ⊢ (iprop(tokens c ∗ pends c ∗ idles c) : sProp 𝕄) := by
  unfold linear credits tokens pends idles idle pend
  rw [payToks_list, atPos_list]
  iintro ⟨⟨⟨A0, A1, A2, A3, A4, A5, A6, A7, A8, A9, A10, A11, A12, A13, A14, A15, A16, A17, A18, A19, A20, A21, A22, A23, A24, A25, A26, A27⟩, T0, T1, T2, T3, T4, T5, T6, T7, T8, T9, T10, T11, T12, T13, T14, T15, T16, T17, T18, T19, T20, T21, T22, T23, T24, T25, T26, T27, T28, T29⟩, C0, C16, C17, C18, C19, C24, C25, C26, C27⟩
  isplitl [T0 T1 T2 T18 T19 T20 T21 T26 T27 T28 T29]
  · isplitl [T0]; · iexact T0
    isplitl [T1]; · iexact T1
    isplitl [T2]; · iexact T2
    isplitl [T18]; · iexact T18
    isplitl [T19]; · iexact T19
    isplitl [T20]; · iexact T20
    isplitl [T21]; · iexact T21
    isplitl [T26]; · iexact T26
    isplitl [T27]; · iexact T27
    isplitl [T28]; · iexact T28
    iexact T29
  isplitl [A0 C0 A16 C16 A17 C17 A18 C18 A19 C19 A24 C24 A25 C25 A26 C26 A27 C27]
  · isplitl [A0 C0]
    · isplitl [A0]; · iexact A0
      iexact C0
    isplitl [A16 C16]
    · isplitl [A16]; · iexact A16
      iexact C16
    isplitl [A17 C17]
    · isplitl [A17]; · iexact A17
      iexact C17
    isplitl [A18 C18]
    · isplitl [A18]; · iexact A18
      iexact C18
    isplitl [A19 C19]
    · isplitl [A19]; · iexact A19
      iexact C19
    isplitl [A24 C24]
    · isplitl [A24]; · iexact A24
      iexact C24
    isplitl [A25 C25]
    · isplitl [A25]; · iexact A25
      iexact C25
    isplitl [A26 C26]
    · isplitl [A26]; · iexact A26
      iexact C26
    isplitl [A27]; · iexact A27
    iexact C27
  isplitl [A1 T3]
  · isplitl [A1]; · iexact A1
    iexact T3
  isplitl [A2 T4]
  · isplitl [A2]; · iexact A2
    iexact T4
  isplitl [A3 T5]
  · isplitl [A3]; · iexact A3
    iexact T5
  isplitl [A4 T6]
  · isplitl [A4]; · iexact A4
    iexact T6
  isplitl [A5 T7]
  · isplitl [A5]; · iexact A5
    iexact T7
  isplitl [A6 T8]
  · isplitl [A6]; · iexact A6
    iexact T8
  isplitl [A7 T9]
  · isplitl [A7]; · iexact A7
    iexact T9
  isplitl [A8 T10]
  · isplitl [A8]; · iexact A8
    iexact T10
  isplitl [A9 T11]
  · isplitl [A9]; · iexact A9
    iexact T11
  isplitl [A10 T12]
  · isplitl [A10]; · iexact A10
    iexact T12
  isplitl [A11 T13]
  · isplitl [A11]; · iexact A11
    iexact T13
  isplitl [A12 T14]
  · isplitl [A12]; · iexact A12
    iexact T14
  isplitl [A13 T15]
  · isplitl [A13]; · iexact A13
    iexact T15
  isplitl [A14 T16]
  · isplitl [A14]; · iexact A14
    iexact T16
  isplitl [A15 T17]
  · isplitl [A15]; · iexact A15
    iexact T17
  isplitl [A20 T22]
  · isplitl [A20]; · iexact A20
    iexact T22
  isplitl [A21 T23]
  · isplitl [A21]; · iexact A21
    iexact T23
  isplitl [A22 T24]
  · isplitl [A22]; · iexact A22
    iexact T24
  isplitl [A23]; · iexact A23
  iexact T25

/-! ## The credits -/

/-- The credit a device gets at launch from a list of debts: each debtor is the device itself seen from the creditor. -/
def credList (c : Dev nD) : List Debt → sProp 𝕄
  | [] => iprop(emp)
  | e :: l => iprop(credList c l ∗ cred (tallyAt (kcell (c, e.2.1)) () e.2.2))

theorem launch_list (l : List Debt) (h : ∀ e ∈ l, ∀ c, e.1 (e.1 c) = c) (c : Dev nD) :
    (Pipeline.launchCred (fun d => owing d l) c : sProp 𝕄) ⊢ credList c l := by
  induction l with
  | nil => exact Entails.of_eq (Pipeline.launchCred_zero c)
  | cons e l ih =>
    have he := h e (List.mem_cons_self ..)
    refine (Entails.of_eq (Pipeline.launchCred_add (fun d => owing d l) (fun d => tallyAt (kcell (e.1 d, e.2.1)) () e.2.2) c)).trans ?_
    exact BI.sep_mono (ih fun e' he' => h e' (List.mem_cons_of_mem _ he')) (Pipeline.launchCred_tallyAt (csem e.2.1) e.1 e.1 he he () e.2.2 c)

theorem debts_symm : ∀ e ∈ debts0, ∀ c, e.1 (e.1 c) = c := by
  intro e he c
  simp only [debts0, debts1, debts2, debts3, debts4, debts5, debts6, debts7, debts8, debts9, debts10, debts11, List.mem_cons, List.not_mem_nil, or_false] at he
  rcases he with rfl | rfl | rfl | rfl | rfl | rfl | rfl | rfl | rfl | rfl | rfl <;> first | exact zp_zp c | exact xn_xn c | exact yn_yn c

/-- Three units make the credit of the barrier cell. -/
theorem three (c : Dev nD) : iprop(cred (tallyAt (kcell (c, 0)) () 1) ∗ cred (tallyAt (kcell (c, 0)) () 1) ∗ cred (tallyAt (kcell (c, 0)) () 1))
    ⊢ (cred (tallyAt (kcell (c, 0)) () (amt 0)) : sProp 𝕄) := by
  have h : (tallyAt (kcell (c, 0)) () (amt 0) : CellTallies nD τ sig Unit)
      = tallyAt (kcell (c, 0)) () 1 + (tallyAt (kcell (c, 0)) () 1 + tallyAt (kcell (c, 0)) () 1) := by
    rw [tallyAt_add, tallyAt_add]
    rfl
  rw [h]
  exact (sep_mono_right (cred_add _ _).2).trans (cred_add _ _).2

/-- What all devices owe at launch credits each cell the neighbours complete. -/
theorem launch_credits (c : Dev nD) : (Pipeline.launchCred (fun d => owing d debts0) c : sProp 𝕄) ⊢ credits c := by
  refine (launch_list debts0 debts_symm c).trans ?_
  show iprop((((((((((((emp ∗ cred (tallyAt (kcell (c, 27)) () credC)) ∗ cred (tallyAt (kcell (c, 25)) () credC)) ∗ cred (tallyAt (kcell (c, 26)) () credC))
      ∗ cred (tallyAt (kcell (c, 24)) () credC)) ∗ cred (tallyAt (kcell (c, 19)) () credC)) ∗ cred (tallyAt (kcell (c, 18)) () credC))
      ∗ cred (tallyAt (kcell (c, 17)) () credC)) ∗ cred (tallyAt (kcell (c, 16)) () credC)) ∗ cred (tallyAt (kcell (c, 0)) () 1))
      ∗ cred (tallyAt (kcell (c, 0)) () 1)) ∗ cred (tallyAt (kcell (c, 0)) () 1))) ⊢ _
  unfold credits
  iintro ⟨⟨⟨⟨⟨⟨⟨⟨⟨⟨⟨-, H27⟩, H25⟩, H26⟩, H24⟩, H19⟩, H18⟩, H17⟩, H16⟩, Hy⟩, Hx⟩, Hz⟩
  isplitl [Hx Hy Hz]
  · iapply (three c)
    isplitl [Hx]; · iexact Hx
    isplitl [Hy]; · iexact Hy
    iexact Hz
  isplitl [H16]; · iexact H16
  isplitl [H17]; · iexact H17
  isplitl [H18]; · iexact H18
  isplitl [H19]; · iexact H19
  isplitl [H24]; · iexact H24
  isplitl [H25]; · iexact H25
  isplitl [H26]; · iexact H26
  iexact H27

end Cert.RowNorm
-- ==== Proof.Launch.lean ====
/-
# The launch

Every device's kernel is launched with the duties it pays and the whole of its buffers; the run of all eight devices ends
with the result of each in place, its arguments as they were, and every semaphore counter at zero.
-/
module

public import proofs.«01_k».proof.Proof.Deal

@[expose] public section

set_option maxRecDepth 16384

noncomputable section

namespace Cert.RowNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-- What device `c` begins with: the duties and credits dealt to it, and its arrays. -/
def start (c : Dev nD) : sProp 𝕄 :=
  iprop(∃ K, records m K ∗ (tokens c ∗ pends c ∗ idles c) ∗ anyPts c main_v1 Finset.univ ∗ pts c main_arg0 Finset.univ fullShare (part m c))

/-- Before the kernel: the buffers of the kernel are whole. -/
def Φ₀ (c : Dev nD) : sProp 𝕄 := iprop(start m c ∗ scratch c)

/-- What is read off at the end: the barrier closed, the result, and the first argument. -/
def left (c : Dev nD) : sProp 𝕄 :=
  iprop(closed c 0 ∗ pts c main_v1 Finset.univ fullShare (result m c) ∗ pts c main_arg0 Finset.univ fullShare.right (part m c))

/-- After the kernel. -/
def Φ₁ (c : Dev nD) : sProp 𝕄 := iprop(left m c ∗ closeds c ∗ scratch c)

/-- The kernel's one window is the gain, staged whole. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => m ((c : Thread nD τ).loc main_arg1)
  Φ t := match t with
    | ⟨0, _⟩ => Φ₀ m c
    | ⟨_ + 1, _⟩ => Φ₁ m c
  q _ := fullShare
  owed t := match t with
    | ⟨0, _⟩ => owing c debts0
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 1)) := bigSep_W0 Φ

theorem fetch_0 (t : Fin cfg0.N) : (cfg0.win (0 : Fin 1)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The kernel at its one point -/

/-- A staged buffer that holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (m ((c : Thread nD τ).loc main_arg1)))

/-- The gain's window is the whole gain. -/
theorem staged (c : Dev nD) (d : (cc0_stg0_0 : Ref sig .tc).ty.Contents (Elt F)) :
    (dats m ρ 0 c).before (0 : Fin 1) t₀ d = m ((c : Thread nD τ).loc main_arg1) := by
  unfold Dat.before
  rw [if_pos (fetch_0 t₀)]
  refine funext fun x => congrArg (m ((c : Thread nD τ).loc main_arg1)) (funext fun a => Fin.ext ?_)
  match a with
  | ⟨0, _⟩ => show 0 + 1 * (x 0).val = (x 0).val; omega

theorem sound_body (c : Dev nD) : bodyPre m ρ c ⊢ Runs c (onBufs (cc0_body (F := F))) (fun _ => bodyPost m ρ c) := by
  unfold bodyPre bodyPost Φ₀ Φ₁ start left Dat.owesAt Pipeline.owesWithin
  iintro ⟨⟨⟨%K, #HR, ⟨Ht, Hp, Hi⟩, Hv, Ha⟩, Hs⟩, ⟨%W, %hW, Ho⟩, ⟨%d, %g, %hg, Hg⟩⟩
  have hg' : g = m ((c : Thread nD τ).loc main_arg1) := hg.trans (staged m ρ c d)
  subst hg'
  ihave Ho := (show owes (c : Thread nD τ) ((dats m ρ 0 c).owed t₀.castSucc) W ⊢ owes (c : Thread nD τ) (owing c debts0) W from Entails.of_eq rfl) $$ Ho
  ihave Ho := (show owes (c : Thread nD τ) (owing c debts0) W ⊢ owe c debts0 from by unfold owe; iintro H; iexists W; iexact H) $$ Ho
  iapply (body_runs m K c) $$ HR Hg Ho Ht Hp Hi Hs Hv Ha
  iintro ⟨Hg, Ho, H0, Hc, Hs, Hv, Ha⟩
  isplitl [H0 Hc Hs Hv Ha]
  · isplitl [H0 Hv Ha]
    · isplitl [H0]; · iexact H0
      isplitl [Hv]; · iexact Hv
      iexact Ha
    isplitl [Hc]; · iexact Hc
    iexact Hs
  isplitl [Ho]
  · unfold owe
    icases Ho with ⟨%W', Ho⟩
    rw [show (dats m ρ 0 c).owed t₀.succ = owing c debts11 from rfl]
    iexists W'
    isplitr; · ipureintro; exact fun _ _ => Or.inl trivial
    iexact Ho
  iexists _; isplitr; · (ipureintro; rfl)
  iexact Hg

set_option maxRecDepth 65536 in
/-- The kernel at its one point, as the launch states it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch's ghost state -/

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

/-- What the launch's element holds for device `c`. -/
def G (c : Dev nD) : sProp 𝕄 :=
  iprop((bigSep Finset.univ fun q : Fin 28 => roundState ER (Sch m) (kcell (c, q)) 0)
    ∗ (bigSep Finset.univ fun q : Fin 28 => iprop(atPos ER (kcell (c, q)) 0 ∅ 0 ∗ reached ER (kcell (c, q)) 0)) ∗ toks c)

/-- What all devices know of all cells, but for the levels. -/
def known (K : Dev nD × Fin 28 → ℕ) : sProp 𝕄 :=
  iprop(bigSep Finset.univ (fun p : Dev nD × Fin 28 => cellInv ER (Sch m) (K p) (kcell p))
    ∗ bigSep Finset.univ (fun p : Dev nD × Fin 28 => reached ER (kcell p) 0))

instance known_persistent (K : Dev nD × Fin 28 → ℕ) : BI.Persistent (known m K) := by unfold known; infer_instance

def G' (c : Dev nD) : sProp 𝕄 := iprop(∃ K, known m K ∗ linear c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun q : Fin 28 => Φ (kcell (c, q)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Sch m) allCells allToks) $$ HX with ⟨Hst, Hr, Hat, Htok⟩
  imodintro
  ihave Hst := (Entails.of_eq (hX fun g => roundState ER (Sch m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-- The barrier is the one semaphore no kernel allocates. -/
theorem unscopedSems0_eq (c : Dev nD) : (unscopedSems0 c : sProp 𝕄) = closed c 0 := by
  unfold unscopedSems0; rw [bigSep_eq_bigSepL_of_eq [SemLoc.reg barS] (by decide) (by decide)]; rfl

/-- The transfer cells are the kernel's own semaphores. -/
theorem ownSems0_eq (c : Dev nD) : (Pipeline.ownSems0 (Ix := Unit) (Name := ℕ) (U := UU) (Lvl := ℕ) (Val := Elt F) (τ := τ) osem c : sProp 𝕄) = closeds c := by
  rw [Pipeline.ownSems0_eq_of_list c osem [0, 1, 2, 3, 4, 5, 6, 7, 8, 9, 10, 11, 12, 13, 14, 15, 16, 17, 18, 19, 20, 21, 22, 23, 24, 25, 26] (by decide) (by decide)]; rfl

theorem cells_list (c : Dev nD) : (bigSep Finset.univ fun q : Fin 28 => (semVal (kcell (c, q)) 0 : sProp 𝕄)) = iprop(closed c 0 ∗ closeds c) := by
  rw [bigSep_univ_eq_bigSepL [0, 1, 2, 3, 4, 5, 6, 7, 8, 9, 10, 11, 12, 13, 14, 15, 16, 17, 18, 19, 20, 21, 22, 23, 24, 25, 26, 27] (by decide) (by decide)]
  rfl

/-- Each cell's invariant is established from its counter at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun q => iprop(∃ κ : ℕ, cellInv ER (Sch m) κ (kcell (c, q))))
          ∗ (bigSep Finset.univ fun q => iprop(atPos ER (kcell (c, q)) 0 ∅ 0 ∗ reached ER (kcell (c, q)) 0)) ∗ toks c) := by
  unfold G
  rw [ownSems0_eq, unscopedSems0_eq]
  iintro ⟨Hos, Hus, Hst, Hat, Htok⟩
  ihave Hv := (Entails.of_eq (cells_list (F := F) c).symm) $$ [Hos Hus]
  · isplitl [Hus]; · iexact Hus
    iexact Hos
  imod (show iprop((bigSep Finset.univ fun q : Fin 28 => semVal (kcell (c, q)) 0) ∗ bigSep Finset.univ fun q : Fin 28 => roundState ER (Sch m) (kcell (c, q)) 0)
      ⊢ (|={Set.univ}=> bigSep Finset.univ fun q => iprop(∃ κ : ℕ, cellInv ER (Sch m) κ (kcell (c, q))) : sProp 𝕄) from by
        rw [← bigSep_sep']
        exact (bigSep_mono fun q _ => (Rounds.body_intro ER (Sch m) (kcell (c, q))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- What everyone knows goes with each part of a family. -/
theorem bigSep_with {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The names of all invariants are known to every device, and the duties go where they are paid. -/
theorem regroup :
    (bigSep Finset.univ fun c : Dev nD => iprop((bigSep Finset.univ fun q => iprop(∃ κ : ℕ, cellInv ER (Sch m) κ (kcell (c, q))))
          ∗ (bigSep Finset.univ fun q => iprop(atPos ER (kcell (c, q)) 0 ∅ 0 ∗ reached ER (kcell (c, q)) 0)) ∗ toks c) : sProp 𝕄)
      ⊢ bigSep Finset.univ (G' m) := by
  rw [bigSep_sep', bigSep_sep', ← bigSep_univ_prod (fun p : Dev nD × Fin 28 => iprop(∃ κ : ℕ, cellInv ER (Sch m) κ (kcell p))),
    bigSep_congr (s := Finset.univ) (fun (c : Dev nD) _ => bigSep_sep' Finset.univ (fun q : Fin 28 => (atPos ER (kcell (c, q)) 0 ∅ 0 : sProp 𝕄)) (fun q => reached ER (kcell (c, q)) 0)),
    bigSep_sep', ← bigSep_univ_prod (fun p : Dev nD × Fin 28 => (reached ER (kcell p) 0 : sProp 𝕄)), toks_dealt]
  iintro ⟨HI, ⟨Hat, #HR⟩, Htok⟩
  ihave HK := (BI.bigSep_exists_pi Finset.univ (fun (p : Dev nD × Fin 28) (κ : ℕ) => (cellInv ER (Sch m) κ (kcell p) : sProp 𝕄))) $$ HI
  icases HK with ⟨%K, #HI⟩
  iapply (bigSep_with (R := known m K) (Φ := fun c : Dev nD => linear c) fun c _ => show iprop(known m K ∗ linear c) ⊢ G' m c from by
    unfold G'
    iintro H
    iexists K
    iexact H)
  isplitr
  · unfold known; isplitl; · iexact HI
    iexact HR
  · unfold linear
    rw [bigSep_sep']
    isplitl [Hat]; · iexact Hat
    iexact Htok

/-- The semaphores of all devices at once become the cells of the protocol. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Into the kernel and out of it -/

theorem start_intro (c : Dev nD) :
    iprop(Pipeline.unscopedRestP Pipeline.Prefetch.none cfg0.spec c (fun b => m ((c : Thread nD τ).loc b)) ∗ levAts L lv
        ∗ Pipeline.launchCred (fun d => owing d debts0) c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
    = Pipeline.unscopedRest cfg0.spec c (fun b => m ((c : Thread nD τ).loc b)) from Pipeline.unscopedRestP_none _ _ _, unscopedRest0_eq]
  iintro ⟨⟨Ha, Hv⟩, #Hlev, Hcr, -, HG⟩
  ihave Hc := (launch_credits (F := F) c) $$ Hcr
  unfold G' known
  icases HG with ⟨%K, ⟨#HI, #HR⟩, Hl⟩
  ihave Hd := (dealt (F := F) c) $$ [Hl Hc]
  · isplitl [Hl]; · iexact Hl
    iexact Hc
  imodintro
  isplitl
  · unfold start
    iexists K
    isplitr
    · unfold records
      isplitr; · iexact HI
      isplitr; · iexact HR
      iexact Hlev
    isplitl [Hd]; · iexact Hd
    isplitl [Hv]; · iapply (pts_any c) $$ Hv
    iexact Ha
  · iempintro

theorem scopedRest_eq (c : Dev nD) : (Pipeline.scopedRest (Ix := Unit) (Name := ℕ) (U := UU) (Lvl := ℕ) (Val := Elt F) cfg0.spec c : sProp 𝕄) = scratch c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest_eq]
  unfold Φ₀
  iintro ⟨Hs, -, Hr⟩
  isplitl [Hs]; · iexact Hs
  iexact Hr

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest_eq, ownSems0_eq]
  unfold Φ₁
  iintro H
  iexact H

/-- Staging is waited for below everything owed. -/
theorem waits (c : Dev nD) : (levAts L lv : sProp 𝕄) ⊢ Pipeline.cellsWaits cfgs (dats m ρ) () 0 c :=
  Pipeline.cellsWaits_intro cfgs (dats m ρ) () 0 c fun w s t => by
    have hz : ∀ w s, lv ((c : Thread nD τ), .dma (((cfg0.win w).sem s))) () ≤ 0 := fun w s => by
      fin_cases w; fin_cases s; show lvq _ ≤ 0; decide
    rcases t with ⟨_ | _, ht⟩
    · exact mayWait c _ debts0 0 (hz w s) (fun e he => by rw [lv_csem]; revert e; decide)
    · exact mayWait c _ debts11 0 (hz w s) (fun e he => by rw [lv_csem]; revert e; decide)

/-! ## The run -/

/-- What every device's memory holds in the end. -/
def Ends (s : MemSt nD τ sig (Elt F)) : Prop :=
  ∀ c : Dev nD, s.mem ((c : Thread nD τ).loc main_v1) = result m c
    ∧ s.mem ((c : Thread nD τ).loc main_arg0) = m ((c : Thread nD τ).loc main_arg0)
    ∧ s.mem ((c : Thread nD τ).loc main_arg1) = m ((c : Thread nD τ).loc main_arg1)

/-- The result and the first argument are read off what is left. -/
theorem left_read (c : Dev nD) (s' : Phys nD τ sig (Elt F)) :
    iprop(left m c ∗ iprop(emp) ∗ SI s') ⊢ |={Set.univ}=> (iprop(⌜(∀ sm : SemLoc sig, sm.isScoped .tc = false → s'.mem.sem ((c.tc : Thread nD τ), sm) = 0)
      ∧ s'.mem.mem ((c : Thread nD τ).loc main_v1) = result m c ∧ s'.mem.mem ((c : Thread nD τ).loc main_arg0) = m ((c : Thread nD τ).loc main_arg0)⌝ ∗ SI s') : sProp 𝕄) := by
  unfold left
  rw [← unscopedSems0_eq]
  iintro ⟨⟨Hu, Hv, Ha⟩, -, HSI⟩
  icombine HSI Hv gives %hv
  icombine HSI Ha gives %ha
  imod (Pipeline.unscopedSems0_read (X := unscopedSems0 c) (c := c) fupd_intro s') $$ [Hu HSI] with ⟨%hu, HSI⟩
  · isplitl [Hu]; · iexact Hu
    iexact HSI
  imodintro
  isplitr
  · ipureintro; exact ⟨hu, Buf.eq_of_forall_mem_univ hv, Buf.eq_of_forall_mem_univ ha⟩
  iexact HSI

set_option maxRecDepth 65536 in
/-- On eight devices, for any float values and from any memory with every counter at zero: every fair execution of the
    kernels ends, with the result of each device in place, its arguments as they were, and every counter at zero. -/
theorem run_main : θ_run defs (onTc (τ := τ) (main (F := F))) (s₀ m ρ) (fun r => Ends m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owing d debts0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP]; · iexact HP
      iexact HG)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_v1) = result m c ∧ s.mem ((c : Thread nD τ).loc main_arg0) = m ((c : Thread nD τ).loc main_arg0))
    (hY := left_read m)
    (hQ := fun _ h hs => ⟨fun c => ⟨(h c).2.2.2.1, (h c).2.2.2.2, ((h c).1 0).trans ((dats (F := F) m ρ 0 c).arrAt_in (0 : Fin 1) rfl _)⟩,
      sem_eq_zero hs fun c => (h c).2.2.1⟩)

end Cert.RowNorm
-- ==== Proof.Same.lean ====
/-
# The kernel as printed and the kernel read over the extended reals

No operation of the kernel was rewritten, so the two printed programs run the same body: their tables of bodies are equal.
-/
module

public import proofs.«01_k».proof.Proof.Gen.Kernel
public import proofs.«01_k».proof.Proof.Gen.KernelIdeal

@[expose] public section

namespace Cert.RowNorm

open Idealize.ShloMosaic

variable {F : FTy → Type} [FloatOps F]

/-- The one body of both programs, at the buffers of the launch. -/
theorem bodies₀_eq : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Λ := Cert.Kernel.Λ₀)) (funext fun l => funext fun a => ?_)
  match l, a with
  | ⟨0, _⟩, (t, s) => rfl
  | ⟨_ + 1, h⟩, _ => exact absurd h (Nat.not_lt.2 (Nat.le_add_left _ _))

/-- The tables of bodies with the pipeline's own. -/
theorem bodies_eq : Cert.Kernel.defs (F := F) = Cert.KernelIdeal.defs (F := F) := by
  unfold Cert.Kernel.defs Cert.KernelIdeal.defs
  rw [bodies₀_eq]
  rfl

end Cert.RowNorm
-- ==== Proof.Norm.lean ====
/-
# One row

Dividing a row by the root of its mean square and multiplying by the gains, written twice: as the kernel's block of 128 rows
computes it, with the reciprocal root, and as the reference does, with a quotient. Over the extended reals the two agree on
every row, infinite entries included: the mean square is then infinite and both sides are zero.
-/
module

public import proofs.«01_k».proof.Proof.Rows
public import proofs.«01_k».proof.Proof.Gen.KernelIdeal.Skeleton
public import Idealize.ShloMosaic.Lib.Pointwise

@[expose] public section

set_option maxRecDepth 16384

noncomputable section

namespace Cert.RowNorm

open Cert.KernelIdeal Cert.KernelIdeal.Gen
open Idealize.ShloMosaic

/-- The mean of the squares of a row, and the small constant added to it. -/
def meanSq (y : Fin 1024 → EReal) : EReal :=
  Ideal.div (∑ k, y k * y k) (Ideal.ofBits .f32 0x44800000#32) + Ideal.ofBits .f32 0x358637BD#32

/-- The row as the kernel normalises it, and as the reference does. -/
def byRsqrt (y g : Fin 1024 → EReal) (j : Fin 1024) : EReal := y j * Ideal.rsqrt (meanSq y) * g j
def byQuotient (y g : Fin 1024 → EReal) (j : Fin 1024) : EReal := Ideal.div (y j) (Ideal.sqrt (meanSq y)) * g j

theorem ofBits_1024 : Ideal.ofBits .f32 0x44800000#32 = ((1024 : ℝ) : EReal) := by
  simp [Ideal.ofBits, Ideal.ieee, -EReal.coe_mul]; norm_num

/-- The constant is a positive real. -/
theorem ofBits_eps : ∃ e : ℝ, 0 < e ∧ Ideal.ofBits .f32 0x358637BD#32 = (e : EReal) := by
  refine ⟨_, ?_, by simp only [Ideal.ofBits, Ideal.ieee]; simp [-EReal.coe_mul]; rfl⟩
  norm_num

/-- A square is not negative. -/
theorem sq_nonneg' (a : EReal) : 0 ≤ a * a := by
  induction a with
  | bot => simp
  | top => simp
  | coe r => exact_mod_cast mul_self_nonneg r

/-- The mean square with the constant is a positive real or infinite. -/
theorem meanSq_cases (y : Fin 1024 → EReal) : meanSq y = ⊤ ∨ ∃ a : ℝ, 0 < a ∧ meanSq y = (a : EReal) := by
  obtain ⟨e, he, h⟩ := ofBits_eps
  have hs : (0 : EReal) ≤ ∑ k, y k * y k := Finset.sum_nonneg fun k _ => sq_nonneg' (y k)
  unfold meanSq
  rw [h, ofBits_1024, Ideal.div_coe (by norm_num)]
  generalize (∑ k, y k * y k) = s at hs
  induction s with
  | bot => simp at hs
  | top => left; rw [EReal.top_mul_coe_of_pos (by norm_num)]; rfl
  | coe r =>
    right
    have hr : 0 ≤ r := by exact_mod_cast hs
    exact ⟨r * (1 / 1024) + e, by positivity, by push_cast; rfl⟩

/-- The two ways to normalise a row agree. -/
theorem byRsqrt_eq (y g : Fin 1024 → EReal) : byRsqrt y g = byQuotient y g := by
  funext j
  unfold byRsqrt byQuotient
  congr 1
  rcases meanSq_cases y with h | ⟨a, ha, h⟩
  · rw [h, Ideal.rsqrt_top, Ideal.sqrt_top, Ideal.div, if_neg EReal.top_ne_zero, EReal.inv_top]
  · have hs : Real.sqrt a ≠ 0 := (Real.sqrt_pos.mpr ha).ne'
    rw [h, Ideal.rsqrt_coe, Ideal.sqrt_coe, if_neg (not_lt.mpr ha.le), if_neg ha.ne', if_neg (not_lt.mpr ha.le), Ideal.div_coe hs, one_div]

/-- What the kernel computes of a block of 128 rows: each row of the two blocks' sum, normalised. -/
theorem block_apply (g : FVec Ideal S1024 .f32) (a : Vec Ideal S128x1024 .f32) (b : Vec Ideal S128x1024 .bf16) (r : Fin 128) (j : Fin 1024) :
    k0_pay7 (F := Ideal) g a b (ix2 r j) = byRsqrt (fun l => a (ix2 r l) + b (ix2 r l)) (fun l => g (ix1 l)) j := by
  pointwise [k0_pay7, k0_pay6, byRsqrt, meanSq]

/-- The narrowed copy is the same over the extended reals. -/
theorem narrow_apply (g : FVec Ideal S1024 .f32) (a : Vec Ideal S128x1024 .f32) (b : Vec Ideal S128x1024 .bf16) (r : Fin 128) (j : Fin 1024) :
    k0_pay8 (F := Ideal) g a b (ix2 r j) = byRsqrt (fun l => a (ix2 r l) + b (ix2 r l)) (fun l => g (ix1 l)) j := by
  pointwise [k0_pay8, k0_pay6, byRsqrt, meanSq]

/-- What is sent is what was fetched; what is received is what was sent; the gains are the gains. -/
theorem send_apply (a : Vec Ideal S128x1024 .f32) (r : Fin 128) (j : Fin 1024) : k0_pay2 (F := Ideal) a (ix2 r j) = a (ix2 r j) := by
  pointwise [k0_pay2]
theorem widen_apply (a : Vec Ideal S256x1024 .bf16) (r : Fin 256) (j : Fin 1024) : k0_pay15 (F := Ideal) a (ix2 r j) = a (ix2 r j) := by
  pointwise [k0_pay15]
theorem gain_apply (a : Vec Ideal S1024 .f32) (j : Fin 1024) : k0_pay1 (F := Ideal) a (ix1 j) = a (ix1 j) := by
  pointwise [k0_pay1]

end Cert.RowNorm
-- ==== Proof.KernelValue.lean ====
/-
# The result, row by row

Over the extended reals, when every device holds its `z`-slice of one array of partial sums and the same gains, row `r`
of the result of device `c` is the normalised sum of the two slices' rows, whichever of the four quarters it lies in and
whoever has finished it.
-/
module

public import proofs.«01_k».proof.Proof.Norm
public import proofs.«01_k».proof.Proof.Contents

@[expose] public section

set_option maxRecDepth 16384

noncomputable section

namespace Cert.RowNorm

open Cert.KernelIdeal Cert.KernelIdeal.Gen
open Idealize.ShloMosaic Idealize.ShloMosaic.TcCoe

variable (m : (ℓ : Loc nD τ sig) → Buf (Elt Ideal) ℓ)

theorem at2_eq {R : ℕ} [NeZero R] {r : ℕ} (h : r < R) (j : Fin 1024) : at2 R r j = ix2 ⟨r, h⟩ j := by
  funext a
  match a with
  | ⟨0, _⟩ => exact Fin.ext (Nat.mod_eq_of_lt h)
  | ⟨1, _⟩ => rfl

/-- The block from row `a`, at an index. -/
theorem blk_apply {α : Type} {R : ℕ} [NeZero R] {a : ℕ} (f : (Mat R).Idx → α) (r : Fin 128) (j : Fin 1024) (h : a + r.val < R) :
    blk R a f (ix2 r j) = f (ix2 ⟨a + r.val, h⟩ j) := congrArg f (at2_eq h j)

/-- An array made of blocks, at an index. -/
theorem ofBlocks_apply {β : Type} {R : ℕ} (g : ℕ → (Mat 128).Idx → β) (r : Fin R) (j : Fin 1024) :
    ofBlocks R g (ix2 r j) = g (r.val / 128) (ix2 ⟨r.val % 128, Nat.mod_lt _ (by decide)⟩ j) := by
  unfold ofBlocks
  congr 1
  funext a
  match a with
  | ⟨0, _⟩ => rfl
  | ⟨1, _⟩ => rfl

/-- Row `r` of half `z` of the partial sums of device `c`. -/
def row (c : Dev nD) (z r : ℕ) : Fin 1024 → EReal := fun j => part m c (Fin.cons (0 : Fin 1) (at2 2048 (1024 * z + r) j))

/-- A row of what is fetched. -/
theorem fetched_apply (c : Dev nD) (z : ℕ) (r : Fin 512) (j : Fin 1024) : fetched m c z (ix2 r j) = row m c z (fetchRow c r.val) j := rfl

/-- A row of what is received across `z`. -/
theorem recvZ_apply (c : Dev nD) (r : Fin 512) (j : Fin 1024) :
    recvZ m c (ix2 r j) = row m (zp c) (1 - (zp c).val % 2) (fetchRow (zp c) r.val) j := by
  unfold recvZ sentZ
  have h : 128 * (r.val / 128) + r.val % 128 = r.val := Nat.div_add_mod _ _
  rw [ofBlocks_apply, send_apply, blk_apply (R := 512) _ _ _ (by show 128 * (r.val / 128) + r.val % 128 < 512; omega)]
  unfold peerRows
  rw [fetched_apply]
  show row m (zp c) _ (fetchRow (zp c) (128 * (r.val / 128) + r.val % 128)) j = _
  rw [h]

theorem fetchRow_zp (c : Dev nD) (r : ℕ) : fetchRow (zp c) r = fetchRow c r := by
  unfold fetchRow
  rw [show own (zp c) = own c from by revert c; decide, show diag (zp c) = diag c from by revert c; decide]

/-- The neighbours across `x` and `y` have the same half; the one across `z` has the other. -/
theorem xn_half (c : Dev nD) : (xn c).val % 2 = c.val % 2 := by revert c; decide
theorem yn_half (c : Dev nD) : (yn c).val % 2 = c.val % 2 := by revert c; decide
theorem half_zp (c : Dev nD) : (zp c).val % 2 = 1 - c.val % 2 := by revert c; decide
theorem zp_half (c : Dev nD) : 1 - (zp c).val % 2 = c.val % 2 := by revert c; decide

/-- The row that device `c` adds up for row `r` of its half of the result. -/
def summed (c : Dev nD) (r : ℕ) : Fin 1024 → EReal := fun j => row m c (c.val % 2) r j + row m (zp c) (c.val % 2) r j

/-- The gains at launch, as a row. -/
def gains (c : Dev nD) : Fin 1024 → EReal := fun j => m ((c : Thread nD τ).loc main_arg1) (ix1 j)

theorem gain_row (c : Dev nD) : (fun l => gain m c (ix1 l)) = gains m c := funext fun l => gain_apply _ l

/-- What a block of 128 rows adds up. -/
theorem blocks_sum (c : Dev nD) {k : ℕ} (hk : k < 4) (r : Fin 128) :
    (fun l => blk 512 (128 * k) (ownRows m c) (ix2 r l) + blk 512 (128 * k) (recvZ m c) (ix2 r l)) = summed m c (fetchRow c (128 * k + r.val)) := by
  funext l
  have h : 128 * k + r.val < 512 := by omega
  rw [blk_apply (R := 512) _ _ _ h, blk_apply (R := 512) _ _ _ h, recvZ_apply]
  unfold ownRows
  rw [fetched_apply, fetchRow_zp, zp_half]
  rfl

/-- A finished row, and its narrowed copy. -/
theorem normed_apply (c : Dev nD) {k : ℕ} (hk : k < 4) (r : Fin 128) (j : Fin 1024) :
    normed m c k (ix2 r j) = byRsqrt (summed m c (fetchRow c (128 * k + r.val))) (gains m c) j := by
  unfold normed
  rw [block_apply, blocks_sum m c hk, gain_row]
theorem normedB_apply (c : Dev nD) {k : ℕ} (hk : k < 4) (r : Fin 128) (j : Fin 1024) :
    normedB m c k (ix2 r j) = byRsqrt (summed m c (fetchRow c (128 * k + r.val))) (gains m c) j := by
  unfold normedB
  rw [narrow_apply, blocks_sum m c hk, gain_row]

/-- Row `r` of the own quarter is row `r` past the quarter's beginning; so of the diagonal one, and of the quarter sent on. -/
theorem ownQ_apply (c : Dev nD) (r : Fin 256) (j : Fin 1024) :
    ownQ m c (ix2 r j) = byRsqrt (summed m c (256 * own c + r.val)) (gains m c) j := by
  unfold ownQ
  have h : 128 * (r.val / 128) + r.val % 128 = r.val := Nat.div_add_mod _ _
  rw [ofBlocks_apply, normed_apply m c (by omega)]
  show byRsqrt (summed m c (fetchRow c (128 * (r.val / 128) + r.val % 128))) _ _ = _
  rw [h, fetchRow, if_pos r.isLt]
theorem diagQ_apply (c : Dev nD) (r : Fin 256) (j : Fin 1024) :
    diagQ m c (ix2 r j) = byRsqrt (summed m c (256 * diag c + r.val)) (gains m c) j := by
  unfold diagQ
  have h : 128 * (r.val / 128 + 2) + r.val % 128 = 256 + r.val := by omega
  rw [ofBlocks_apply, normed_apply m c (by omega)]
  show byRsqrt (summed m c (fetchRow c (128 * (r.val / 128 + 2) + r.val % 128))) _ _ = _
  rw [h, fetchRow, if_neg (by omega), Nat.add_sub_cancel_left]
theorem sentQ_apply (c : Dev nD) (r : Fin 256) (j : Fin 1024) :
    sentQ m c (ix2 r j) = byRsqrt (summed m c (256 * own c + r.val)) (gains m c) j := by
  unfold sentQ
  have h : 128 * (r.val / 128) + r.val % 128 = r.val := Nat.div_add_mod _ _
  rw [ofBlocks_apply, normedB_apply m c (by omega)]
  show byRsqrt (summed m c (fetchRow c (128 * (r.val / 128) + r.val % 128))) _ _ = _
  rw [h, fetchRow, if_pos r.isLt]

/-- The four quarters are those of the device, its diagonal, and its two neighbours. -/
theorem last_quarter (c : Dev nD) (q : Fin 4) (h1 : q.val ≠ own c) (h2 : q.val ≠ diag c) (h3 : q.val ≠ own (xn c)) : q.val = own (yn c) := by
  revert c q; decide

/-- Row `r` of the result of device `c` is the normalised row that `c`, or one of its neighbours, has added up. -/
theorem result_apply (c : Dev nD) (r j : Fin 1024) :
    ∃ d, (d = c ∨ d = xn c ∨ d = yn c) ∧ result m c (ix2 r j) = byRsqrt (summed m d r.val) (gains m d) j := by
  have hr : r.val / 256 < 4 := by omega
  have hi : at2 256 r.val j = ix2 ⟨r.val % 256, Nat.mod_lt _ (by decide)⟩ j := by
    funext a
    match a with
    | ⟨0, _⟩ => rfl
    | ⟨1, _⟩ => rfl
  have hq (q : ℕ) (h : r.val / 256 = q) : 256 * q + r.val % 256 = r.val := by omega
  have hres : result m c (ix2 r j) = if r.val / 256 = own c then ownQ m c (at2 256 r.val j) else if r.val / 256 = diag c then diagQ m c (at2 256 r.val j)
      else if r.val / 256 = own (xn c) then xQ m c (at2 256 r.val j) else yQ m c (at2 256 r.val j) := rfl
  rw [hres, hi]
  by_cases h1 : r.val / 256 = own c
  · refine ⟨c, .inl rfl, ?_⟩
    rw [if_pos h1, ownQ_apply]
    show byRsqrt (summed m c (256 * own c + r.val % 256)) _ _ = _
    rw [hq _ h1]
  rw [if_neg h1]
  by_cases h2 : r.val / 256 = diag c
  · refine ⟨c, .inl rfl, ?_⟩
    rw [if_pos h2, diagQ_apply]
    show byRsqrt (summed m c (256 * diag c + r.val % 256)) _ _ = _
    rw [hq _ h2]
  rw [if_neg h2]
  by_cases h3 : r.val / 256 = own (xn c)
  · refine ⟨xn c, .inr (.inl rfl), ?_⟩
    unfold xQ
    rw [if_pos h3, widen_apply, sentQ_apply]
    show byRsqrt (summed m (xn c) (256 * own (xn c) + r.val % 256)) _ _ = _
    rw [hq _ h3]
  have h4 := last_quarter c ⟨r.val / 256, hr⟩ h1 h2 h3
  refine ⟨yn c, .inr (.inr rfl), ?_⟩
  unfold yQ
  rw [if_neg h3, widen_apply, sentQ_apply]
  show byRsqrt (summed m (yn c) (256 * own (yn c) + r.val % 256)) _ _ = _
  rw [hq _ h4]

/-- Given the one array of partial sums, of which each device holds the slice of its `z`, and the gains: what device `c`
    ends with at row `r`. -/
theorem result_value (A : (⟨3, ![2, 2048, 1024]⟩ : Shape).Idx → EReal) (g : Fin 1024 → EReal)
    (hA : ∀ (c : Dev nD) (i : Fin 2048) (j : Fin 1024), part m c (ix3 0 i j) = A (ix3 ⟨c.val % 2, Nat.mod_lt _ (by decide)⟩ i j))
    (hg : ∀ c, gains m c = g) (c : Dev nD) (r j : Fin 1024) (R : Fin 2048) (hR : R.val = 1024 * (c.val % 2) + r.val) :
    result m c (ix2 r j) = byRsqrt (fun l => A (ix3 0 R l) + A (ix3 1 R l)) g j := by
  obtain ⟨d, hd, h⟩ := result_apply m c r j
  have hz : d.val % 2 = c.val % 2 := by
    rcases hd with rfl | rfl | rfl
    · rfl
    · exact xn_half c
    · exact yn_half c
  have hrow (e : Dev nD) (l : Fin 1024) : row m e (c.val % 2) r.val l = A (ix3 ⟨e.val % 2, Nat.mod_lt _ (by decide)⟩ R l) := by
    rw [← hA e R l]
    unfold row
    rw [at2_eq (R := 2048) (by omega)]
    congr 1
    funext a
    match a with
    | ⟨0, _⟩ => rfl
    | ⟨1, _⟩ => exact Fin.ext hR.symm
    | ⟨2, _⟩ => rfl
  rw [h, hg]
  congr 1
  funext l
  unfold summed
  rw [hz, hrow, hrow]
  have hzp := half_zp d
  rcases Nat.mod_two_eq_zero_or_one d.val with h0 | h0
  · rw [show (⟨d.val % 2, Nat.mod_lt _ (by decide)⟩ : Fin 2) = 0 from Fin.ext h0,
      show (⟨(zp d).val % 2, Nat.mod_lt _ (by decide)⟩ : Fin 2) = 1 from Fin.ext (hzp.trans (by rw [h0]; rfl))]
  · rw [show (⟨d.val % 2, Nat.mod_lt _ (by decide)⟩ : Fin 2) = 1 from Fin.ext h0,
      show (⟨(zp d).val % 2, Nat.mod_lt _ (by decide)⟩ : Fin 2) = 0 from Fin.ext (hzp.trans (by rw [h0]; rfl)), add_comm]

end Cert.RowNorm
-- ==== Proof.Reference.lean ====
/-
# The reference, row by row

Over the extended reals, row `R` of the reference's result is the sum of the two slices' rows, divided by the root of its
mean square and multiplied by the gains.
-/
module

public import proofs.«01_k».proof.Proof.Norm
public import proofs.«01_k».proof.Proof.Gen.ReferenceIdeal.Run

@[expose] public section

set_option maxRecDepth 16384

noncomputable section

namespace Cert.RowNorm

open Cert.ReferenceIdeal Cert.ReferenceIdeal.Gen
open Idealize.ShloMosaic Idealize.ShloMosaic.TcCoe Idealize.SL.Sem

/-- The reference's result: every row the normalised sum of the two slices' rows. -/
def expected (A : S2x2048x1024.Idx → EReal) (g : S1024.Idx → EReal) : S2048x1024.Idx → EReal := fun i =>
  byQuotient (fun l => A (ix3 0 (i 0) l) + A (ix3 1 (i 0) l)) (fun l => g (ix1 l)) (i 1)

/-- The sum over the slices. -/
theorem slices_sum (A : FVec Ideal S2x2048x1024 .f32) (R : Fin 2048) (l : Fin 1024) :
    Host.reduceAdd (F := Ideal) A (constant S_ .f32 0x00000000#32) reducesTo_S2x2048x1024_S2048x1024_d0 h_S_ (ix2 R l)
      = A (ix3 0 R l) + A (ix3 1 R l) := by
  pointwise []
  rw [Fin.sum_univ_two]

/-- The operations after that sum, on any array. -/
theorem normalised (y : FVec Ideal S2048x1024 .f32) (g : FVec Ideal S1024 .f32) (i : S2048x1024.Idx) :
    mulf (Host.divf y (broadcastInDim S2048x1024 ![0, 1] bcast_S2048x1_S2048x1024_0_1 (Host.sqrt (addf (Host.divf (broadcastInDim S2048x1 ![0] bcast_S2048_S2048x1_0 (Host.reduceAdd (mulf y y) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 g)) i
      = byQuotient (fun l => y (ix2 (i 0) l)) (fun l => g (ix1 l)) (i 1) := by
  idx_vars i
  pointwise [byQuotient, meanSq]

/-- The reference's run, its result stated row by row. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      r.2.mem (((0 : Dev nD) : Thread nD τ).loc main_v13) = expected (m (((0 : Dev nD) : Thread nD τ).loc main_arg0)) (m (((0 : Dev nD) : Thread nD τ).loc main_arg1))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1) :=
  (θ_run defs _ _).mono (fun _ h => ⟨(h 0).1.trans (funext fun i => by
      rw [normalised]
      unfold expected
      congr 1
      funext l
      exact slices_sum _ _ l), (h 0).2⟩)
    (Value.run (F := Ideal) m ρ)

end Cert.RowNorm
-- ==== Proof.Value.lean ====
/-
# The value

Over the extended reals, when the devices hold the slices of the reference's array and its gains, device `c` ends with the
half of the reference's result that belongs to its `z`.
-/
module

public import proofs.«01_k».proof.Proof.KernelValue
public import proofs.«01_k».proof.Proof.Reference

@[expose] public section

set_option maxRecDepth 16384

noncomputable section

namespace Cert.RowNorm

open Cert.KernelIdeal Cert.KernelIdeal.Gen
open Idealize.ShloMosaic Idealize.ShloMosaic.TcCoe

/-- An element of a block of a matrix, in the whole matrix. -/
theorem block2_apply {n₀ n₁ N₀ N₁ : ℕ} {k : Fin 2 → ℕ} (b : (a : Fin 2) → Fin (k a)) (v : (⟨2, ![N₀, N₁]⟩ : Shape).Idx → EReal)
    (h : Layout.TilesN ⟨2, ![n₀, n₁]⟩ ⟨2, ![N₀, N₁]⟩ k) (i : Fin n₀) (j : Fin n₁) (I : Fin N₀) (J : Fin N₁)
    (hI : (b 0).val * n₀ + i.val = I.val) (hJ : (b 1).val * n₁ + j.val = J.val) :
    Layout.blockN ⟨2, ![n₀, n₁]⟩ ⟨2, ![N₀, N₁]⟩ b v h (ix2 i j) = v (ix2 I J) := by
  rw [Layout.blockN_apply]
  congr 1
  funext a
  match a with
  | ⟨0, _⟩ => exact Fin.ext hI
  | ⟨1, _⟩ => exact Fin.ext hJ

/-- The same with three axes. -/
theorem block3_apply {n₀ n₁ n₂ N₀ N₁ N₂ : ℕ} {k : Fin 3 → ℕ} (b : (a : Fin 3) → Fin (k a)) (v : (⟨3, ![N₀, N₁, N₂]⟩ : Shape).Idx → EReal)
    (h : Layout.TilesN ⟨3, ![n₀, n₁, n₂]⟩ ⟨3, ![N₀, N₁, N₂]⟩ k) (i : Fin n₀) (j : Fin n₁) (l : Fin n₂) (I : Fin N₀) (J : Fin N₁) (L : Fin N₂)
    (hI : (b 0).val * n₀ + i.val = I.val) (hJ : (b 1).val * n₁ + j.val = J.val) (hL : (b 2).val * n₂ + l.val = L.val) :
    Layout.blockN ⟨3, ![n₀, n₁, n₂]⟩ ⟨3, ![N₀, N₁, N₂]⟩ b v h (ix3 i j l) = v (ix3 I J L) := by
  rw [Layout.blockN_apply]
  congr 1
  funext a
  match a with
  | ⟨0, _⟩ => exact Fin.ext hI
  | ⟨1, _⟩ => exact Fin.ext hJ
  | ⟨2, _⟩ => exact Fin.ext hL

/-- Along an axis cut by `z` a device has the block of its `z`; along an axis not cut, the only block. -/
theorem block_z (c : Dev nD) : Layout.meshLin [2, 2, 2] c.val [2] = c.val % 2 := by revert c; decide
theorem block_uncut (c : Dev nD) : Layout.meshLin [2, 2, 2] c.val [] = 0 := rfl

/-- An element of a device's slice, in the whole array. -/
theorem slice_apply (A : (⟨3, ![2, 2048, 1024]⟩ : Shape).Idx → EReal) (c : Dev nD) (i : Fin 2048) (j : Fin 1024) :
    Layout.blockN ⟨3, ![1, 2048, 1024]⟩ ⟨3, ![2, 2048, 1024]⟩ (Layout.meshBlock [2, 2, 2] ![[2], [], []] c) A (by decide) (ix3 0 i j)
      = A (ix3 ⟨c.val % 2, Nat.mod_lt _ (by decide)⟩ i j) := by
  apply block3_apply
  · show Layout.meshLin [2, 2, 2] c.val [2] * 1 + 0 = c.val % 2
    rw [block_z, Nat.mul_one, Nat.add_zero]
  · show Layout.meshLin [2, 2, 2] c.val [] * 2048 + i.val = i.val
    rw [block_uncut, Nat.zero_mul, Nat.zero_add]
  · show Layout.meshLin [2, 2, 2] c.val [] * 1024 + j.val = j.val
    rw [block_uncut, Nat.zero_mul, Nat.zero_add]

/-- An element of a device's half, in the whole result. -/
theorem half_apply (v : (⟨2, ![2048, 1024]⟩ : Shape).Idx → EReal) (c : Dev nD) (r j : Fin 1024) (R : Fin 2048) (hR : R.val = 1024 * (c.val % 2) + r.val) :
    Layout.blockN ⟨2, ![1024, 1024]⟩ ⟨2, ![2048, 1024]⟩ (Layout.meshBlock [2, 2, 2] ![[2], []] c) v (by decide) (ix2 r j) = v (ix2 R j) := by
  apply block2_apply
  · show Layout.meshLin [2, 2, 2] c.val [2] * 1024 + r.val = R.val
    rw [block_z, hR, Nat.mul_comm]
  · show Layout.meshLin [2, 2, 2] c.val [] * 1024 + j.val = j.val
    rw [block_uncut, Nat.zero_mul, Nat.zero_add]

/-- What device `c` ends with is its half of the reference's result. -/
theorem result_eq (m : (ℓ : Loc nD τ sig) → Buf (Elt Ideal) ℓ) (A : (⟨3, ![2, 2048, 1024]⟩ : Shape).Idx → EReal) (g : (⟨1, ![1024]⟩ : Shape).Idx → EReal)
    (h : ∀ c : Dev nD, m ((c : Thread nD τ).loc main_arg0) = Layout.blockN ⟨3, ![1, 2048, 1024]⟩ ⟨3, ![2, 2048, 1024]⟩ (Layout.meshBlock [2, 2, 2] ![[2], [], []] c) A
      ∧ m ((c : Thread nD τ).loc main_arg1) = g) (c : Dev nD) :
    result m c = Layout.blockN ⟨2, ![1024, 1024]⟩ ⟨2, ![2048, 1024]⟩ (Layout.meshBlock [2, 2, 2] ![[2], []] c) (expected A g) := by
  funext i
  have hi : i = ix2 (i 0) (i 1) := eq_ix2 i
  rw [hi]
  have hlt : 1024 * (c.val % 2) + (show Fin 1024 from i 0).val < 2048 := by
    have := (show Fin 1024 from i 0).isLt
    omega
  refine (result_value m A (fun j => g (ix1 j)) (fun d i j => ?_) (fun d => ?_) c (i 0) (i 1) ⟨_, hlt⟩ rfl).trans ?_
  · exact (congrFun (h d).1 (ix3 0 i j)).trans (slice_apply A d i j)
  · exact funext fun j => congrFun (h d).2 (ix1 j)
  · rw [byRsqrt_eq]
    exact (half_apply (expected A g) c (i 0) (i 1) ⟨_, hlt⟩ rfl).symm

end Cert.RowNorm
-- ==== Proof.lean ====
/-
# The claims

Each claim is read off one run: the run of the kernel on eight devices, stated for any float values (Launch), and the run
of the reference.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- For any float values: the kernel runs to the end on all devices, its arguments unchanged and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.RowNorm.run_main m ρ)

/-- The kernel as printed is, line for line, the program read over the extended reals: the same run, over bit patterns. -/
theorem frame_kernel : Cert.quiescent_Kernel := fun m ρ _ => by
  rw [Cert.RowNorm.bodies_eq]
  exact frame_any (F := Bits) m ρ

/-- The program over the extended reals. -/
theorem frame_kernelIdeal : Cert.quiescent_KernelIdeal := fun m ρ _ => frame_any (F := Ideal) m ρ

/-- The reference runs to the end with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The values: every device ends with its half of the reference's result. -/
theorem algebraic : Cert.algebraic_KernelIdeal_ReferenceIdeal := fun m ρ m' ρ' _ hm =>
  ⟨Cert.RowNorm.expected _ _,
    (θ_run Cert.KernelIdeal.defs _ _).mono (fun _ h c => ⟨(h.1 c).1.trans (Cert.RowNorm.result_eq m _ _ hm c), (h.1 c).2⟩)
      (Cert.RowNorm.run_main (F := Ideal) m ρ),
    Cert.RowNorm.reference_run m' ρ'⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
